-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x65536 : Shape := ⟨2, ![128, 65536]⟩
abbrev S_ : Shape := ⟨0, ![]⟩

class Facts : Prop where
  bcast_S_S128x65536 : S_.BroadcastsInDim S128x65536 (![] : Fin 0 → Fin S128x65536.rank)

variable [Facts]

def fn {F : FTy → Type} [FloatOps F] (main_arg0 : FVec F S128x65536 .f32) : IVec S128x65536 1 :=
  let main_v0 : FVec F S128x65536 .f32 := Host.absf main_arg0
  let main_cst : FVec F S_ .f32 := constant S_ .f32 0x7F800000#32
  let main_v1 : FVec F S128x65536 .f32 := broadcastInDim S128x65536 ![] bcast_S_S128x65536 main_cst
  let main_v2 : IVec S128x65536 1 := cmpf .olt main_v0 main_v1
  main_v2
-- ==== Kernel.lean ====
abbrev S128x65536 : Shape := ⟨2, ![128, 65536]⟩
abbrev S2x2x128x128 : Shape := ⟨4, ![2, 2, 128, 128]⟩
abbrev S2x128x8192 : Shape := ⟨3, ![2, 128, 8192]⟩
abbrev S2x128x16384 : Shape := ⟨3, ![2, 128, 16384]⟩
abbrev S2x2x2 : Shape := ⟨3, ![2, 2, 2]⟩
abbrev S1x1x128x128 : Shape := ⟨4, ![1, 1, 128, 128]⟩
abbrev S128x128 : Shape := ⟨2, ![128, 128]⟩
abbrev S1x1x1 : Shape := ⟨3, ![1, 1, 1]⟩
abbrev S_ : Shape := ⟨0, ![]⟩
abbrev S1x64x8192 : Shape := ⟨3, ![1, 64, 8192]⟩
abbrev S64x8192 : Shape := ⟨2, ![64, 8192]⟩
abbrev S1x128x128 : Shape := ⟨3, ![1, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x65536, .f32⟩
  | .hbm, ⟨1, _⟩ => ⟨S2x2x128x128, .f32⟩
  | .hbm, ⟨2, _⟩ => ⟨S128x65536, .f32⟩
  | .local _ .vmem, ⟨0, _⟩ => ⟨S2x2x128x128, .f32⟩
  | .local _ .vmem, ⟨1, _⟩ => ⟨S2x128x8192, .f32⟩
  | .local _ .vmem, ⟨2, _⟩ => ⟨S2x128x8192, .f32⟩
  | .local _ .vmem, ⟨3, _⟩ => ⟨S2x128x16384, .f32⟩
  | _, _ => ⟨S128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S2x2x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x65536 : Shape := ⟨2, ![128, 65536]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S128x65536, .f32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S1, .i32⟩
  | .hbm, ⟨11, _⟩ => ⟨S_, .i32⟩
  | .hbm, ⟨12, _⟩ => ⟨S65536x1, .i32⟩
  | .hbm, ⟨13, _⟩ => ⟨S65536x1, .i1⟩
  | .hbm, ⟨14, _⟩ => ⟨S1x1, .i32⟩
  | .hbm, ⟨15, _⟩ => ⟨S65536x1, .i32⟩
  | .hbm, ⟨16, _⟩ => ⟨S65536x1, .i1⟩
  | .hbm, ⟨17, _⟩ => ⟨S65536x1, .i1⟩
  | .hbm, ⟨18, _⟩ => ⟨S_, .i1⟩
  | .hbm, ⟨19, _⟩ => ⟨S65536, .i1⟩
  | .hbm, ⟨20, _⟩ => ⟨S128x65536, .f32⟩
  | .hbm, ⟨21, _⟩ => ⟨S128x65536, .i1⟩
  | .hbm, ⟨22, _⟩ => ⟨S_, .f32⟩
  | .hbm, ⟨23, _⟩ => ⟨S128x65536, .f32⟩
  | .hbm, ⟨24, _⟩ => ⟨S128x65536, .f32⟩
  | _, _ => ⟨S128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Program.lean ====
/- The kernel's body, restated as a program over the phase, the row half and the step: what the printed list of
   statements unrolls. The equation between the two is decided by evaluation. -/
module

public import proofs.«01_k».proof.Proof.Gen.KernelIdeal.Skeleton

@[expose] public section

set_option maxRecDepth 16384

noncomputable section

namespace Cert.Ring

open Idealize.ShloMosaic Idealize.SL Idealize.SL.Sem
open Cert.KernelIdeal Cert.KernelIdeal.Facts₀ Cert.KernelIdeal.Facts

variable {F : FTy → Type} [FloatOps F]

/-- A program of one TensorCore. -/
abbrev KProg (F : FTy → Type) [FloatOps F] := Prog (TpuEff nD τ sig (Elt F) Λ₀ .tc) PUnit

/-- The first column of the 128-column block that step `t` reads in slot `s`. -/
def pcol (s : Fin 2) (t : Fin 64) : Nat := ((t.val ^^^ (t.val >>> 1)) ^^^ (32 * s.val)) * 128

/-- The first column of the first operand's window in phase `k`. -/
def colA : Fin 4 → Nat := ![0, 8192, 24576, 16384]

/-- The first column of the second operand's window in phase `k`. -/
def colB : Fin 4 → Nat := ![49152, 57344, 40960, 32768]

theorem inb_load (s : Fin 2) (t : Fin 64) :
    ∀ a, (![s.val, 0, pcol s t] : Fin 3 → Nat) a + S1x128x128.size a ≤ S2x128x8192.size a := by
  revert s t; decide +kernel

theorem inb_lo (s : Fin 2) (t : Fin 64) :
    ∀ a, (![s.val, 0, t.val * 128] : Fin 3 → Nat) a + S1x128x128.size a ≤ S2x128x16384.size a := by
  revert s t; decide +kernel

theorem inb_hi (s : Fin 2) (t : Fin 64) :
    ∀ a, (![s.val, 0, 8192 + t.val * 128] : Fin 3 → Nat) a + S1x128x128.size a ≤ S2x128x16384.size a := by
  revert s t; decide +kernel

theorem inb_sem (s x h : Fin 2) :
    ∀ a, (![s.val, x.val, h.val] : Fin 3 → Nat) a + S1x1x1.size a ≤ S2x2x2.size a := by
  revert s x h; decide +kernel

theorem inb_slot (s h : Fin 2) :
    ∀ a, (![s.val, 64 * h.val, 0] : Fin 3 → Nat) a + S1x64x8192.size a ≤ S2x128x8192.size a := by
  revert s h; decide +kernel

theorem inb_colA (k : Fin 4) (h : Fin 2) :
    ∀ a, (![64 * h.val, colA k] : Fin 2 → Nat) a + S64x8192.size a ≤ S128x65536.size a := by
  revert k h; decide +kernel

theorem inb_colB (k : Fin 4) (h : Fin 2) :
    ∀ a, (![64 * h.val, colB k] : Fin 2 → Nat) a + S64x8192.size a ≤ S128x65536.size a := by
  revert k h; decide +kernel

theorem inb_oslot (s x h : Fin 2) :
    ∀ a, (![s.val, 64 * h.val, 8192 * x.val] : Fin 3 → Nat) a + S1x64x8192.size a ≤ S2x128x16384.size a := by
  revert s x h; decide +kernel

theorem inb_out (k : Fin 4) (x h : Fin 2) :
    ∀ a, (![64 * h.val, 32768 * x.val + 8192 * k.val] : Fin 2 → Nat) a + S64x8192.size a ≤ S128x65536.size a := by
  revert k x h; decide +kernel

theorem inb_p (v x : Fin 2) :
    ∀ a, (![v.val, x.val, 0, 0] : Fin 4 → Nat) a + S1x1x128x128.size a ≤ S2x2x128x128.size a := by
  revert v x; decide +kernel

/-- The slot phase `k` uses. -/
def slot (k : Fin 4) : Fin 2 := ⟨k.val % 2, Nat.mod_lt _ (by decide)⟩

/-- The two matrix products of a step, on what it loaded. -/
def mulP (pp : FVec F S128x128 .f32) (a b : Vec F S1x128x128 .f32) : FVec F S128x128 .f32 :=
  matmul dot_S128x128_S128x128_S128x128_1_0_0_1_n_n none
    (addf (shapeCast S128x128 a shapeCasts_S1x128x128_S128x128) (shapeCast S128x128 b shapeCasts_S1x128x128_S128x128)) pp
    (constant S128x128 .f32 0x00000000#32)

/-- The product of the difference. -/
def mulM (pm : FVec F S128x128 .f32) (a b : Vec F S1x128x128 .f32) : FVec F S128x128 .f32 :=
  matmul dot_S128x128_S128x128_S128x128_1_0_0_1_n_n none
    (subf (shapeCast S128x128 a shapeCasts_S1x128x128_S128x128) (shapeCast S128x128 b shapeCasts_S1x128x128_S128x128)) pm
    (constant S128x128 .f32 0x00000000#32)

/-- What a step stores in the low half of the output slot. -/
def payLo (pp pm : FVec F S128x128 .f32) (a b : Vec F S1x128x128 .f32) : FVec F S1x128x128 .f32 :=
  shapeCast S1x128x128 (addf (mulP pp a b) (mulM pm a b)) shapeCasts_S128x128_S1x128x128

/-- What a step stores in the high half of the output slot. -/
def payHi (pp pm : FVec F S128x128 .f32) (a b : Vec F S1x128x128 .f32) : FVec F S1x128x128 .f32 :=
  shapeCast S1x128x128 (subf (mulP pp a b) (mulM pm a b)) shapeCasts_S128x128_S1x128x128

/-- `x` at even steps, `y` at odd ones. -/
def par {α : Type} (t : Fin 64) (x y : α) : α := cond (Nat.beq (t.val % 2) 0) x y

section Prog

variable (arg0 : Memref sig .tc .vmem S2x2x128x128 .f32)
  (arg1 arg2 : Memref sig .tc .hbm S128x65536 .f32)
  (arg3 arg4 : Memref sig .tc .vmem S2x128x8192 .f32) (arg5 : Memref sig .tc .vmem S2x128x16384 .f32)
  (arg6 arg7 : DmaSems sig S2x2x2)

/-- One of the eight semaphores of a bank. -/
abbrev semOf (q : DmaSems sig S2x2x2) (s x h : Fin 2) : DmaSem sig :=
  ((q.slice (Rect.unit (s := S2x2x2) ![s.val, x.val, h.val] S1x1x1.size (inb_sem s x h))).squeeze S_ squeezes_S1x1x1_S_).sem

/-- A row half of an operand's slot. -/
abbrev slotM (b : Memref sig .tc .vmem S2x128x8192 .f32) (s h : Fin 2) : Memref sig .tc .vmem S64x8192 .f32 :=
  (b.slice (Rect.unit (s := S2x128x8192) ![s.val, 64 * h.val, 0] S1x64x8192.size (inb_slot s h)) (fun _ => rfl)).squeeze
    S64x8192 squeezes_S1x64x8192_S64x8192

/-- A row half of the first operand's window. -/
abbrev winA (k : Fin 4) (h : Fin 2) : Memref sig .tc .hbm S64x8192 .f32 :=
  arg1.slice (Rect.unit (s := S128x65536) ![64 * h.val, colA k] S64x8192.size (inb_colA k h)) (fun _ => rfl)

/-- A row half of the second operand's window. -/
abbrev winB (k : Fin 4) (h : Fin 2) : Memref sig .tc .hbm S64x8192 .f32 :=
  arg1.slice (Rect.unit (s := S128x65536) ![64 * h.val, colB k] S64x8192.size (inb_colB k h)) (fun _ => rfl)

/-- A row half of a column half of the output slot. -/
abbrev oslotM (s x h : Fin 2) : Memref sig .tc .vmem S64x8192 .f32 :=
  (arg5.slice (Rect.unit (s := S2x128x16384) ![s.val, 64 * h.val, 8192 * x.val] S1x64x8192.size (inb_oslot s x h))
    (fun _ => rfl)).squeeze S64x8192 squeezes_S1x64x8192_S64x8192

/-- The piece of the result that one copy out writes. -/
abbrev outM (k : Fin 4) (x h : Fin 2) : Memref sig .tc .hbm S64x8192 .f32 :=
  arg2.slice (Rect.unit (s := S128x65536) ![64 * h.val, 32768 * x.val + 8192 * k.val] S64x8192.size (inb_out k x h))
    (fun _ => rfl)

/-- Start the copies in of phase `k`, then go on. -/
def inStart1 (k : Fin 4) (h : Fin 2) (r : KProg F) : KProg F :=
  .op (.enqueueDma (winA arg1 k h) (.here (slotM arg3 (slot k) h)) (.dma (semOf arg6 (slot k) 0 h)) (View.wordExact_bits rfl)
    ((View.wordExact_bits rfl).reshape _ _) ⟨Or.inl rfl, trivial⟩) fun _ =>
  .op (.enqueueDma (winB arg1 k h) (.here (slotM arg4 (slot k) h)) (.dma (semOf arg6 (slot k) 1 h)) (View.wordExact_bits rfl)
    ((View.wordExact_bits rfl).reshape _ _) ⟨Or.inl rfl, trivial⟩) fun _ => r

def inStart (k : Fin 4) (r : KProg F) : KProg F :=
  inStart1 arg1 arg3 arg4 arg6 k 0 (inStart1 arg1 arg3 arg4 arg6 k 1 r)

/-- Wait for the copies in of phase `k`, then go on. -/
def inWait1 (k : Fin 4) (h : Fin 2) (r : KProg F) : KProg F :=
  .op (.waitDma2 (semOf arg6 (slot k) 0 h) (winA arg1 k h) (slotM arg3 (slot k) h) (View.wordExact_bits rfl)
    ((View.wordExact_bits rfl).reshape _ _)) fun _ =>
  .op (.waitDma2 (semOf arg6 (slot k) 1 h) (winB arg1 k h) (slotM arg4 (slot k) h) (View.wordExact_bits rfl)
    ((View.wordExact_bits rfl).reshape _ _)) fun _ => r

def inWait (k : Fin 4) (r : KProg F) : KProg F :=
  inWait1 arg1 arg3 arg4 arg6 k 0 (inWait1 arg1 arg3 arg4 arg6 k 1 r)

/-- Start the copies out of phase `k`, then go on. -/
def outStart1 (k : Fin 4) (h : Fin 2) (r : KProg F) : KProg F :=
  .op (.enqueueDma (oslotM arg5 (slot k) 0 h) (.here (outM arg2 k 0 h)) (.dma (semOf arg7 (slot k) 0 h))
    ((View.wordExact_bits rfl).reshape _ _) (View.wordExact_bits rfl) ⟨Or.inl rfl, trivial⟩) fun _ =>
  .op (.enqueueDma (oslotM arg5 (slot k) 1 h) (.here (outM arg2 k 1 h)) (.dma (semOf arg7 (slot k) 1 h))
    ((View.wordExact_bits rfl).reshape _ _) (View.wordExact_bits rfl) ⟨Or.inl rfl, trivial⟩) fun _ => r

def outStart (k : Fin 4) (r : KProg F) : KProg F :=
  outStart1 arg2 arg5 arg7 k 0 (outStart1 arg2 arg5 arg7 k 1 r)

/-- Wait for the copies out of phase `k`, then go on. -/
def outWait1 (k : Fin 4) (h : Fin 2) (r : KProg F) : KProg F :=
  .op (.waitDma2 (semOf arg7 (slot k) 0 h) (oslotM arg5 (slot k) 0 h) (outM arg2 k 0 h)
    ((View.wordExact_bits rfl).reshape _ _) (View.wordExact_bits rfl)) fun _ =>
  .op (.waitDma2 (semOf arg7 (slot k) 1 h) (oslotM arg5 (slot k) 1 h) (outM arg2 k 1 h)
    ((View.wordExact_bits rfl).reshape _ _) (View.wordExact_bits rfl)) fun _ => r

def outWait (k : Fin 4) (r : KProg F) : KProg F :=
  outWait1 arg2 arg5 arg7 k 0 (outWait1 arg2 arg5 arg7 k 1 r)

/-- Step `t` of a phase in slot `s`, then go on. -/
def step (s : Fin 2) (t : Fin 64) (pp pm : FVec F S128x128 .f32) (r : KProg F) : KProg F :=
  .op (.load arg3 (Rect.unit (s := S2x128x8192) ![s.val, 0, pcol s t] S1x128x128.size (inb_load s t)).toLoadRect
    (View.loadsAt_vmem h_S1x128x128)) fun a =>
  .op (.load arg4 (Rect.unit (s := S2x128x8192) ![s.val, 0, pcol s t] S1x128x128.size (inb_load s t)).toLoadRect
    (View.loadsAt_vmem h_S1x128x128)) fun b =>
  .op (.load arg5 (Rect.unit (s := S2x128x16384) ![s.val, 0, t.val * 128] S1x128x128.size (inb_lo s t)).toLoadRect
    (View.loadsAt_vmem h_S1x128x128)) fun _ =>
  .op (.store arg5 (Rect.unit (s := S2x128x16384) ![s.val, 0, t.val * 128] S1x128x128.size (inb_lo s t))
    (payLo pp pm a b) Finset.univ (View.stores_vmem_bits_univ h_S1x128x128 rfl) (.inl rfl)) fun _ =>
  .op (.load arg5 (Rect.unit (s := S2x128x16384) ![s.val, 0, 8192 + t.val * 128] S1x128x128.size (inb_hi s t)).toLoadRect
    (View.loadsAt_vmem h_S1x128x128)) fun _ =>
  .op (.store arg5 (Rect.unit (s := S2x128x16384) ![s.val, 0, 8192 + t.val * 128] S1x128x128.size (inb_hi s t))
    (payHi pp pm a b) Finset.univ (View.stores_vmem_bits_univ h_S1x128x128 rfl) (.inl rfl)) fun _ => r

/-- The last `n` steps of a phase in slot `s`, then go on. -/
def steps (s : Fin 2) (v1 v3 v5 v7 : FVec F S128x128 .f32) : Nat → KProg F → KProg F
  | 0, r => r
  | n + 1, r => step arg3 arg4 arg5 s ⟨63 - n, Nat.lt_of_le_of_lt (Nat.sub_le _ _) (by decide)⟩
      (par ⟨63 - n, Nat.lt_of_le_of_lt (Nat.sub_le _ _) (by decide)⟩ v1 v5)
      (par ⟨63 - n, Nat.lt_of_le_of_lt (Nat.sub_le _ _) (by decide)⟩ v3 v7) (steps s v1 v3 v5 v7 n r)

/-- Load the matrix of parity `v` and sign `x`, then go on with it. -/
def loadP (v x : Fin 2) (r : FVec F S128x128 .f32 → KProg F) : KProg F :=
  .op (.load arg0 (Rect.unit (s := S2x2x128x128) ![v.val, x.val, 0, 0] S1x1x128x128.size (inb_p v x)).toLoadRect
    (View.loadsAt_vmem h_S1x1x128x128)) fun w => r (shapeCast S128x128 w shapeCasts_S1x1x128x128_S128x128)

/-- The whole body. -/
def prog : KProg F :=
  loadP arg0 0 0 fun v1 => loadP arg0 0 1 fun v3 => loadP arg0 1 0 fun v5 => loadP arg0 1 1 fun v7 =>
  inStart arg1 arg3 arg4 arg6 0 <| inStart arg1 arg3 arg4 arg6 1 <|
  inWait arg1 arg3 arg4 arg6 0 <| steps arg3 arg4 arg5 0 v1 v3 v5 v7 64 <|
  outStart arg2 arg5 arg7 0 <| inStart arg1 arg3 arg4 arg6 2 <|
  inWait arg1 arg3 arg4 arg6 1 <| steps arg3 arg4 arg5 1 v1 v3 v5 v7 64 <|
  outStart arg2 arg5 arg7 1 <| inStart arg1 arg3 arg4 arg6 3 <|
  inWait arg1 arg3 arg4 arg6 2 <| outWait arg2 arg5 arg7 0 <| steps arg3 arg4 arg5 0 v1 v3 v5 v7 64 <|
  outStart arg2 arg5 arg7 2 <|
  inWait arg1 arg3 arg4 arg6 3 <| outWait arg2 arg5 arg7 1 <| steps arg3 arg4 arg5 1 v1 v3 v5 v7 64 <|
  outStart arg2 arg5 arg7 3 <|
  outWait arg2 arg5 arg7 2 <| outWait arg2 arg5 arg7 3 <| .ret ⟨⟩

end Prog

end Cert.Ring

end
-- ==== Proof.Geometry.lean ====
/- Where the kernel's copies, loads and stores lie in the five buffers: each view's elements as inequalities on the
   coordinates, and each view's embedding by coordinates. -/
module

public import proofs.«01_k».proof.Proof.Program
public import Idealize.ShloMosaic.Lib.ValueLayout
public import Idealize.ShloMosaic.Lib.Pipeline.ValueKit.Geometry

@[expose] public section

set_option maxRecDepth 16384

noncomputable section

namespace Cert.Ring

open Idealize.ShloMosaic Idealize.SL Idealize.SL.Sem
open Idealize.ShloMosaic.ValueIdx
open Cert.KernelIdeal Cert.KernelIdeal.Facts₀ Cert.KernelIdeal.Facts

/-- The operand. -/
abbrev mPhi : Memref sig .tc .hbm S128x65536 .f32 := Memref.whole main_arg0
/-- The result. -/
abbrev mOut : Memref sig .tc .hbm S128x65536 .f32 := Memref.whole main_v0
/-- The first operand's two slots. -/
abbrev mA : Memref sig .tc .vmem S2x128x8192 .f32 := Memref.whole cc0_scratch0
/-- The second operand's two slots. -/
abbrev mB : Memref sig .tc .vmem S2x128x8192 .f32 := Memref.whole cc0_scratch1
/-- The output's two slots. -/
abbrev mS : Memref sig .tc .vmem S2x128x16384 .f32 := Memref.whole cc0_scratch2

/-- A row half of 8192 columns of a matrix. -/
def pan (h : Fin 2) (lo : Nat) : Finset S128x65536.Idx :=
  Finset.univ.filter fun i => (64 * h.val ≤ (i 0).val ∧ (i 0).val < 64 * h.val + 64) ∧ lo ≤ (i 1).val ∧ (i 1).val < lo + 8192

theorem mem_pan {h : Fin 2} {lo : Nat} {i : S128x65536.Idx} : i ∈ pan h lo ↔
    (64 * h.val ≤ (i 0).val ∧ (i 0).val < 64 * h.val + 64) ∧ lo ≤ (i 1).val ∧ (i 1).val < lo + 8192 := by simp [pan]

/-- A row half of an operand's slot. -/
def slab (s h : Fin 2) : Finset S2x128x8192.Idx :=
  Finset.univ.filter fun i => (i 0).val = s.val ∧ 64 * h.val ≤ (i 1).val ∧ (i 1).val < 64 * h.val + 64

theorem mem_slab {s h : Fin 2} {i : S2x128x8192.Idx} : i ∈ slab s h ↔
    (i 0).val = s.val ∧ 64 * h.val ≤ (i 1).val ∧ (i 1).val < 64 * h.val + 64 := by simp [slab]

/-- An operand's slot. -/
def slotS (s : Fin 2) : Finset S2x128x8192.Idx := Finset.univ.filter fun i => (i 0).val = s.val

theorem mem_slotS {s : Fin 2} {i : S2x128x8192.Idx} : i ∈ slotS s ↔ (i 0).val = s.val := by simp [slotS]

/-- A row half of a column half of an output slot. -/
def oslab (s x h : Fin 2) : Finset S2x128x16384.Idx :=
  Finset.univ.filter fun i => (i 0).val = s.val ∧ (64 * h.val ≤ (i 1).val ∧ (i 1).val < 64 * h.val + 64)
    ∧ 8192 * x.val ≤ (i 2).val ∧ (i 2).val < 8192 * x.val + 8192

theorem mem_oslab {s x h : Fin 2} {i : S2x128x16384.Idx} : i ∈ oslab s x h ↔
    (i 0).val = s.val ∧ (64 * h.val ≤ (i 1).val ∧ (i 1).val < 64 * h.val + 64)
    ∧ 8192 * x.val ≤ (i 2).val ∧ (i 2).val < 8192 * x.val + 8192 := by simp [oslab]

/-- An output slot. -/
def oslotS (s : Fin 2) : Finset S2x128x16384.Idx := Finset.univ.filter fun i => (i 0).val = s.val

theorem mem_oslotS {s : Fin 2} {i : S2x128x16384.Idx} : i ∈ oslotS s ↔ (i 0).val = s.val := by simp [oslotS]

theorem idx3_0 {a b c : Nat} (i : (⟨3, ![a, b, c]⟩ : Shape).Idx) : (i 0).val < a := (i 0).isLt
theorem idx3_1 {a b c : Nat} (i : (⟨3, ![a, b, c]⟩ : Shape).Idx) : (i 1).val < b := (i 1).isLt
theorem idx3_2 {a b c : Nat} (i : (⟨3, ![a, b, c]⟩ : Shape).Idx) : (i 2).val < c := (i 2).isLt

/-- The elements of a 64 × 8192 rectangle. -/
theorem mem_unit2 {off : Fin 2 → Nat} {inb : ∀ a, off a + S64x8192.size a ≤ S128x65536.size a} {i : S128x65536.Idx} :
    i ∈ (Rect.unit (s := S128x65536) off S64x8192.size inb).set ↔
      (off 0 ≤ (i 0).val ∧ (i 0).val < off 0 + 64) ∧ off 1 ≤ (i 1).val ∧ (i 1).val < off 1 + 8192 := by
  rw [Rect.mem_set_unit, Fin.forall_fin_two]; exact Iff.rfl

theorem set_winA (k : Fin 4) (h : Fin 2) : (winA mPhi k h).view.set = pan h (colA k) := by
  refine (View.set_slice_whole main_arg0 _).trans ?_
  ext i; rw [mem_pan]; exact mem_unit2

theorem set_winB (k : Fin 4) (h : Fin 2) : (winB mPhi k h).view.set = pan h (colB k) := by
  refine (View.set_slice_whole main_arg0 _).trans ?_
  ext i; rw [mem_pan]; exact mem_unit2

theorem set_outM (k : Fin 4) (x h : Fin 2) : (outM mOut k x h).view.set = pan h (32768 * x.val + 8192 * k.val) := by
  refine (View.set_slice_whole main_v0 _).trans ?_
  ext i; rw [mem_pan]; exact mem_unit2

/-- The elements of a 1 × 64 × 8192 rectangle of an operand's slots. -/
theorem mem_unitS {s h : Fin 2} {i : S2x128x8192.Idx} :
    i ∈ (Rect.unit (s := S2x128x8192) ![s.val, 64 * h.val, 0] S1x64x8192.size (inb_slot s h)).set ↔
      (i 0).val = s.val ∧ 64 * h.val ≤ (i 1).val ∧ (i 1).val < 64 * h.val + 64 := by
  rw [Rect.mem_set_unit, Fin.forall_fin_succ, Fin.forall_fin_succ, Fin.forall_fin_succ]
  have h0 := idx3_0 i; have h1 := idx3_1 i; have h2 := idx3_2 i
  constructor
  · rintro ⟨⟨a, b⟩, ⟨a', b'⟩, -⟩
    have a : s.val ≤ (i 0).val := a
    have b : (i 0).val < s.val + 1 := b
    have a' : 64 * h.val ≤ (i 1).val := a'
    have b' : (i 1).val < 64 * h.val + 64 := b'
    omega
  · rintro ⟨a, b, c⟩
    refine ⟨⟨?_, ?_⟩, ⟨b, c⟩, ⟨Nat.zero_le _, ?_⟩, fun a => a.elim0⟩
    · show s.val ≤ (i 0).val; omega
    · show (i 0).val < s.val + 1; omega
    · show (i 2).val < 0 + 8192; omega

theorem set_slotA (s h : Fin 2) : (slotM mA s h).view.set = slab s h := by
  refine (View.set_reshape _ _).trans ((View.set_slice_whole cc0_scratch0 _).trans ?_)
  ext i; rw [mem_slab]; exact mem_unitS

theorem set_slotB (s h : Fin 2) : (slotM mB s h).view.set = slab s h := by
  refine (View.set_reshape _ _).trans ((View.set_slice_whole cc0_scratch1 _).trans ?_)
  ext i; rw [mem_slab]; exact mem_unitS

/-- The elements of a 1 × 64 × 8192 rectangle of the output's slots. -/
theorem mem_unitO {s x h : Fin 2} {i : S2x128x16384.Idx} :
    i ∈ (Rect.unit (s := S2x128x16384) ![s.val, 64 * h.val, 8192 * x.val] S1x64x8192.size (inb_oslot s x h)).set ↔
      (i 0).val = s.val ∧ (64 * h.val ≤ (i 1).val ∧ (i 1).val < 64 * h.val + 64)
      ∧ 8192 * x.val ≤ (i 2).val ∧ (i 2).val < 8192 * x.val + 8192 := by
  rw [Rect.mem_set_unit, Fin.forall_fin_succ, Fin.forall_fin_succ, Fin.forall_fin_succ]
  constructor
  · rintro ⟨⟨a, b⟩, ⟨a', b'⟩, ⟨a'', b''⟩, -⟩
    have a : s.val ≤ (i 0).val := a
    have b : (i 0).val < s.val + 1 := b
    exact ⟨by omega, ⟨a', b'⟩, a'', b''⟩
  · rintro ⟨a, b, c⟩
    refine ⟨⟨?_, ?_⟩, b, c, fun a => a.elim0⟩
    · show s.val ≤ (i 0).val; omega
    · show (i 0).val < s.val + 1; omega

theorem set_oslot (s x h : Fin 2) : (oslotM mS s x h).view.set = oslab s x h := by
  refine (View.set_reshape _ _).trans ((View.set_slice_whole cc0_scratch2 _).trans ?_)
  ext i; rw [mem_oslab]; exact mem_unitO

/-! ## Embeddings by coordinates -/

theorem emb_winA (k : Fin 4) (h : Fin 2) (x : S64x8192.Idx) :
    (((winA mPhi k h).view.emb x : S128x65536.Idx) 0).val = 64 * h.val + (x 0).val
    ∧ (((winA mPhi k h).view.emb x : S128x65536.Idx) 1).val = colA k + (x 1).val :=
  ⟨ValueKit.view_emb_slice_whole_unit_val main_arg0 _ _ (inb_colA k h) x 0,
    ValueKit.view_emb_slice_whole_unit_val main_arg0 _ _ (inb_colA k h) x 1⟩

theorem emb_winB (k : Fin 4) (h : Fin 2) (x : S64x8192.Idx) :
    (((winB mPhi k h).view.emb x : S128x65536.Idx) 0).val = 64 * h.val + (x 0).val
    ∧ (((winB mPhi k h).view.emb x : S128x65536.Idx) 1).val = colB k + (x 1).val :=
  ⟨ValueKit.view_emb_slice_whole_unit_val main_arg0 _ _ (inb_colB k h) x 0,
    ValueKit.view_emb_slice_whole_unit_val main_arg0 _ _ (inb_colB k h) x 1⟩

theorem emb_outM (k : Fin 4) (y h : Fin 2) (x : S64x8192.Idx) :
    (((outM mOut k y h).view.emb x : S128x65536.Idx) 0).val = 64 * h.val + (x 0).val
    ∧ (((outM mOut k y h).view.emb x : S128x65536.Idx) 1).val = 32768 * y.val + 8192 * k.val + (x 1).val :=
  ⟨ValueKit.view_emb_slice_whole_unit_val main_v0 _ _ (inb_out k y h) x 0,
    ValueKit.view_emb_slice_whole_unit_val main_v0 _ _ (inb_out k y h) x 1⟩

theorem numel_eq : S64x8192.numel = S1x64x8192.numel := by decide

/-- A squeezed index gets a leading zero. -/
theorem resh (x : S64x8192.Idx) (hn : S64x8192.numel = S1x64x8192.numel) :
    Shape.reshapeEquiv hn x = (ix3 0 (x 0) (x 1) : S1x64x8192.Idx) :=
  (congrArg _ (eq_ix2 x)).trans (reshapeEquiv_ix2_1ab hn (x 0) (x 1))

theorem emb_slotA (s h : Fin 2) (x : S64x8192.Idx) :
    (((slotM mA s h).view.emb x : S2x128x8192.Idx) 0).val = s.val
    ∧ (((slotM mA s h).view.emb x : S2x128x8192.Idx) 1).val = 64 * h.val + (x 0).val
    ∧ (((slotM mA s h).view.emb x : S2x128x8192.Idx) 2).val = (x 1).val := by
  have e : (slotM mA s h).view.emb x
      = ((View.whole cc0_scratch0).slice (Rect.unit (s := S2x128x8192) ![s.val, 64 * h.val, 0] S1x64x8192.size (inb_slot s h))).emb
        (ix3 0 (x 0) (x 1) : S1x64x8192.Idx) :=
    congrArg (fun j : S1x64x8192.Idx => ((View.whole cc0_scratch0).slice (Rect.unit (s := S2x128x8192) ![s.val, 64 * h.val, 0] S1x64x8192.size (inb_slot s h))).emb j) (resh x numel_eq)
  rw [e]
  exact ⟨ValueKit.view_emb_slice_whole_unit_val cc0_scratch0 _ _ (inb_slot s h) _ 0,
    ValueKit.view_emb_slice_whole_unit_val cc0_scratch0 _ _ (inb_slot s h) _ 1,
    (ValueKit.view_emb_slice_whole_unit_val cc0_scratch0 _ _ (inb_slot s h) _ 2).trans (Nat.zero_add _)⟩

theorem emb_slotB (s h : Fin 2) (x : S64x8192.Idx) :
    (((slotM mB s h).view.emb x : S2x128x8192.Idx) 0).val = s.val
    ∧ (((slotM mB s h).view.emb x : S2x128x8192.Idx) 1).val = 64 * h.val + (x 0).val
    ∧ (((slotM mB s h).view.emb x : S2x128x8192.Idx) 2).val = (x 1).val := by
  have e : (slotM mB s h).view.emb x
      = ((View.whole cc0_scratch1).slice (Rect.unit (s := S2x128x8192) ![s.val, 64 * h.val, 0] S1x64x8192.size (inb_slot s h))).emb
        (ix3 0 (x 0) (x 1) : S1x64x8192.Idx) :=
    congrArg (fun j : S1x64x8192.Idx => ((View.whole cc0_scratch1).slice (Rect.unit (s := S2x128x8192) ![s.val, 64 * h.val, 0] S1x64x8192.size (inb_slot s h))).emb j) (resh x numel_eq)
  rw [e]
  exact ⟨ValueKit.view_emb_slice_whole_unit_val cc0_scratch1 _ _ (inb_slot s h) _ 0,
    ValueKit.view_emb_slice_whole_unit_val cc0_scratch1 _ _ (inb_slot s h) _ 1,
    (ValueKit.view_emb_slice_whole_unit_val cc0_scratch1 _ _ (inb_slot s h) _ 2).trans (Nat.zero_add _)⟩

theorem emb_oslot (s y h : Fin 2) (x : S64x8192.Idx) :
    (((oslotM mS s y h).view.emb x : S2x128x16384.Idx) 0).val = s.val
    ∧ (((oslotM mS s y h).view.emb x : S2x128x16384.Idx) 1).val = 64 * h.val + (x 0).val
    ∧ (((oslotM mS s y h).view.emb x : S2x128x16384.Idx) 2).val = 8192 * y.val + (x 1).val := by
  have e : (oslotM mS s y h).view.emb x
      = ((View.whole cc0_scratch2).slice (Rect.unit (s := S2x128x16384) ![s.val, 64 * h.val, 8192 * y.val] S1x64x8192.size (inb_oslot s y h))).emb
        (ix3 0 (x 0) (x 1) : S1x64x8192.Idx) :=
    congrArg (fun j : S1x64x8192.Idx => ((View.whole cc0_scratch2).slice (Rect.unit (s := S2x128x16384) ![s.val, 64 * h.val, 8192 * y.val] S1x64x8192.size (inb_oslot s y h))).emb j) (resh x numel_eq)
  rw [e]
  exact ⟨ValueKit.view_emb_slice_whole_unit_val cc0_scratch2 _ _ (inb_oslot s y h) _ 0,
    ValueKit.view_emb_slice_whole_unit_val cc0_scratch2 _ _ (inb_oslot s y h) _ 1,
    ValueKit.view_emb_slice_whole_unit_val cc0_scratch2 _ _ (inb_oslot s y h) _ 2⟩

end Cert.Ring

end
-- ==== Proof.Contents.lean ====
/- What the buffers hold: the operand's blocks the copies bring in, the blocks a step stores, a phase's whole output slot, and the
   result array. -/
module

public import proofs.«01_k».proof.Proof.Geometry

@[expose] public section

set_option maxRecDepth 16384

noncomputable section

namespace Cert.Ring

open Idealize.ShloMosaic Idealize.SL Idealize.SL.Sem
open Idealize.ShloMosaic.ValueIdx
open Cert.KernelIdeal Cert.KernelIdeal.Facts₀ Cert.KernelIdeal.Facts

variable {F : FTy → Type} [FloatOps F]

/-- The operand's element at a row and a column given as numbers. -/
def el (phi : Vec F S128x65536 .f32) (r c : Nat) : Elt F .f32 := phi (ix2 (Fin.ofNat 128 r) (Fin.ofNat 65536 c))

theorem el_eq (phi : Vec F S128x65536 .f32) (i : S128x65536.Idx) {r c : Nat} (h0 : (i 0).val = r) (h1 : (i 1).val = c) :
    phi i = el phi r c := by
  subst h0 h1
  have e0 : (Fin.ofNat 128 (i 0).val : Fin 128) = i 0 := Fin.ext (Nat.mod_eq_of_lt (i 0).isLt)
  have e1 : (Fin.ofNat 65536 (i 1).val : Fin 65536) = i 1 := Fin.ext (Nat.mod_eq_of_lt (i 1).isLt)
  unfold el
  rw [e0, e1]
  exact congrArg phi (eq_ix2 i)

/-- A slot filled from the operand's columns from `lo` on. -/
def slotV (phi : Vec F S128x65536 .f32) (lo : Nat) : Vec F S2x128x8192 .f32 := fun i => el phi (i 1).val (lo + (i 2).val)

/-- A 128 × 128 block of the operand with a leading axis of one. -/
def blk (phi : Vec F S128x65536 .f32) (lo : Nat) : Vec F S1x128x128 .f32 := fun i => el phi (i 1).val (lo + (i 2).val)

variable (P : Fin 2 → Fin 2 → FVec F S128x128 .f32)

/-- What step `t` of phase `k` stores in the low (`x = 0`) or high half. -/
def outBlk (phi : Vec F S128x65536 .f32) (k : Fin 4) (x : Nat) (t : Fin 64) : FVec F S1x128x128 .f32 :=
  cond (Nat.beq x 0)
    (payLo (par t (P 0 0) (P 1 0)) (par t (P 0 1) (P 1 1)) (blk phi (colA k + pcol (slot k) t)) (blk phi (colB k + pcol (slot k) t)))
    (payHi (par t (P 0 0) (P 1 0)) (par t (P 0 1) (P 1 1)) (blk phi (colA k + pcol (slot k) t)) (blk phi (colB k + pcol (slot k) t)))

/-- The stored blocks of phase `k` by half, row, and column within the half. -/
def outEl (phi : Vec F S128x65536 .f32) (k : Fin 4) (x r c : Nat) : Elt F .f32 :=
  outBlk P phi k x (Fin.ofNat 64 (c / 128)) (ix3 0 (Fin.ofNat 128 r) (Fin.ofNat 128 c))

theorem outEl_eq (phi : Vec F S128x65536 .f32) (k : Fin 4) (x : Nat) (t : Fin 64) (i : S1x128x128.Idx) {r c : Nat}
    (hr : r = (i 1).val) (hc : c = t.val * 128 + (i 2).val) : outEl P phi k x r c = outBlk P phi k x t i := by
  subst hr hc
  have h1 : (i 1).val < 128 := (i 1).isLt
  have h2 : (i 2).val < 128 := (i 2).isLt
  have et : (Fin.ofNat 64 ((t.val * 128 + (i 2).val) / 128) : Fin 64) = t := by
    apply Fin.ext
    show (t.val * 128 + (i 2).val) / 128 % 64 = t.val
    have := t.isLt
    omega
  have e1 : (Fin.ofNat 128 (i 1).val : Fin 128) = i 1 := Fin.ext (Nat.mod_eq_of_lt h1)
  have e2 : (Fin.ofNat 128 (t.val * 128 + (i 2).val) : Fin 128) = i 2 := by
    apply Fin.ext
    show (t.val * 128 + (i 2).val) % 128 = (i 2).val
    omega
  unfold outEl
  rw [et, e1, e2]
  have e : (ix3 0 (i 1) (i 2) : S1x128x128.Idx) = i := by
    refine Eq.trans ?_ (eq_ix3 i).symm
    have : (0 : Fin 1) = i 0 := (Fin.eq_zero (i 0)).symm
    exact congrArg (fun z : Fin 1 => (ix3 z (i 1) (i 2) : S1x128x128.Idx)) this
  exact congrArg _ e

/-- A phase's whole output slot. -/
def slotO (phi : Vec F S128x65536 .f32) (k : Fin 4) : Vec F S2x128x16384 .f32 := fun i =>
  outEl P phi k ((i 2).val / 8192) (i 1).val ((i 2).val % 8192)

/-- The result. -/
def resV (phi : Vec F S128x65536 .f32) : Vec F S128x65536 .f32 := fun i =>
  outEl P phi (Fin.ofNat 4 ((i 1).val / 8192)) ((i 1).val / 32768) (i 0).val ((i 1).val % 8192)

end Cert.Ring

end
-- ==== Proof.Copies.lean ====
/- The copies: each one's start and wait, with what it delivers in closed form. -/
module

public import proofs.«01_k».proof.Proof.Contents
public import Idealize.ShloMosaic.Lib.Pipeline.FrameBody
public import Idealize.ShloMosaic.Lib.Transfers
public import Idealize.ShloMosaic.Lib.Tactic

@[expose] public section

set_option maxRecDepth 16384

noncomputable section

namespace Cert.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Facts₀ Cert.KernelIdeal.Facts

variable {F : FTy → Type} [FloatOps F]

local notation "𝕄" => MT nD τ sig Unit (Elt F) ℕ (Pipeline.UD sig nD τ) ℕ

/-- The transfers' counters, in the proof's user algebra. -/
abbrev cnt : UEmb Counters 𝕄 := (UEmb.inr : UEmb Counters (Pipeline.UD sig nD τ)).trans uEmb

/-- What a copy into an operand's slot adds to its semaphore. -/
def amtA : ℕ := (slotM mA 0 0).view.dmaCredit
def amtB : ℕ := (slotM mB 0 0).view.dmaCredit
/-- What a copy out adds to its semaphore. -/
def amtO : ℕ := (outM mOut 0 0 0).view.dmaCredit

theorem amtA_pos : 0 < amtA := by decide +kernel
theorem amtB_pos : 0 < amtB := by decide +kernel
theorem amtO_pos : 0 < amtO := by decide +kernel

/-- Elements of the operand. -/
abbrev ptPhi (c : Dev nD) (I : Finset S128x65536.Idx) (f : Vec F S128x65536 .f32) : sProp 𝕄 :=
  mPhi.view.loc (c : Thread nD τ) ↦[I]{fullShare} f
/-- Elements of the result. -/
abbrev ptOut (c : Dev nD) (I : Finset S128x65536.Idx) (f : Vec F S128x65536 .f32) : sProp 𝕄 :=
  mOut.view.loc (c : Thread nD τ) ↦[I]{fullShare} f
/-- Elements of the first operand's slots. -/
abbrev ptA (c : Dev nD) (I : Finset S2x128x8192.Idx) (f : Vec F S2x128x8192 .f32) : sProp 𝕄 :=
  mA.view.loc (c : Thread nD τ) ↦[I]{fullShare} f
/-- Elements of the second operand's slots. -/
abbrev ptB (c : Dev nD) (I : Finset S2x128x8192.Idx) (f : Vec F S2x128x8192 .f32) : sProp 𝕄 :=
  mB.view.loc (c : Thread nD τ) ↦[I]{fullShare} f
/-- Elements of the output's slots. -/
abbrev ptS (c : Dev nD) (I : Finset S2x128x16384.Idx) (f : Vec F S2x128x16384 .f32) : sProp 𝕄 :=
  mS.view.loc (c : Thread nD τ) ↦[I]{fullShare} f

/-- A copy-in semaphore at zero. -/
abbrev semI (c : Dev nD) (s x h : Fin 2) : sProp 𝕄 := semVal ((c : Thread nD τ), SemLoc.dma (semOf cc0_scratch3 s x h)) 0
/-- A copy-out semaphore at zero. -/
abbrev semO (c : Dev nD) (s x h : Fin 2) : sProp 𝕄 := semVal ((c : Thread nD τ), SemLoc.dma (semOf cc0_scratch4 s x h)) 0

/-- The flight of a copy into the first operand's slot. -/
abbrev flA (c : Dev nD) (phi : Vec F S128x65536 .f32) (k : Fin 4) (h : Fin 2) : sProp 𝕄 :=
  Flight (cnt (F := F)) (c : Thread nD τ) (SemLoc.dma (semOf cc0_scratch3 (slot k) 0 h)) () amtA
    iprop(ptA c (slab (slot k) h) (slotV phi (colA k)) ∗ ptPhi c (pan h (colA k)) phi)
/-- The flight of a copy into the second operand's slot. -/
abbrev flB (c : Dev nD) (phi : Vec F S128x65536 .f32) (k : Fin 4) (h : Fin 2) : sProp 𝕄 :=
  Flight (cnt (F := F)) (c : Thread nD τ) (SemLoc.dma (semOf cc0_scratch3 (slot k) 1 h)) () amtB
    iprop(ptB c (slab (slot k) h) (slotV phi (colB k)) ∗ ptPhi c (pan h (colB k)) phi)

theorem landA (phi : Vec F S128x65536 .f32) (f : Vec F S2x128x8192 .f32) (k : Fin 4) (h : Fin 2) :
    ∀ i ∈ slab (slot k) h, (slotM mA (slot k) h).view.write (Elt F) f ((winA mPhi k h).view.read (Elt F) phi) Finset.univ i
      = slotV phi (colA k) i := by
  intro i hi
  rw [← set_slotA] at hi
  obtain ⟨x, -, rfl⟩ := Finset.mem_map.mp hi
  rw [View.write_emb_of_mem _ _ (Finset.mem_univ x)]
  obtain ⟨e0, e1⟩ := emb_winA k h x
  obtain ⟨d0, d1, d2⟩ := emb_slotA (slot k) h x
  refine (el_eq phi _ e0 e1).trans ?_
  show _ = el phi _ _
  rw [d1, d2]

theorem landB (phi : Vec F S128x65536 .f32) (f : Vec F S2x128x8192 .f32) (k : Fin 4) (h : Fin 2) :
    ∀ i ∈ slab (slot k) h, (slotM mB (slot k) h).view.write (Elt F) f ((winB mPhi k h).view.read (Elt F) phi) Finset.univ i
      = slotV phi (colB k) i := by
  intro i hi
  rw [← set_slotB] at hi
  obtain ⟨x, -, rfl⟩ := Finset.mem_map.mp hi
  rw [View.write_emb_of_mem _ _ (Finset.mem_univ x)]
  obtain ⟨e0, e1⟩ := emb_winB k h x
  obtain ⟨d0, d1, d2⟩ := emb_slotB (slot k) h x
  refine (el_eq phi _ e0 e1).trans ?_
  show _ = el phi _ _
  rw [d1, d2]

theorem startA (c : Dev nD) (phi : Vec F S128x65536 .f32) (f : Vec F S2x128x8192 .f32) (k : Fin 4) (h : Fin 2) (r : PUnit → KProg F)
    (Q : PUnit → sProp 𝕄) :
    iprop(ptPhi c (pan h (colA k)) phi ∗ ptA c (slab (slot k) h) f ∗ semI c (slot k) 0 h)
      ⊢ iprop((flA c phi k h -∗ wp frame (wpE (defs₀ (F := F)) Variants.none (c : Thread nD τ) none) Set.univ (r ⟨⟩) Q)
        -∗ wp frame (wpE (defs₀ (F := F)) Variants.none (c : Thread nD τ) none) Set.univ
          (.op (.enqueueDma (winA mPhi k h) (.here (slotM mA (slot k) h)) (.dma (semOf cc0_scratch3 (slot k) 0 h))
            (View.wordExact_bits rfl) ((View.wordExact_bits rfl).reshape _ _) ⟨Or.inl rfl, trivial⟩) r) Q) := by
  have key := wp_dmaLocal (cnt (F := F)) Variants.none (c : Thread nD τ) none (defs := defs₀ (F := F)) (Q := Q) (k := r)
    (src := winA mPhi k h) (via := .same) (dst := slotM mA (slot k) h) (sm := .dma (semOf cc0_scratch3 (slot k) 0 h))
    (hsrc := View.wordExact_bits rfl) (hdst := (View.wordExact_bits rfl).reshape _ _) (hsem := ⟨Or.inl rfl, trivial⟩)
    (q := fullShare) (fs := phi) (fd := f) (Sd := (slotM mA (slot k) h).view.set) () amtA rfl amtA_pos (Finset.Subset.refl _)
  rw [set_winA, set_slotA] at key
  refine key.trans ?_
  iintro H HK
  iapply H
  iintro HF
  iapply HK
  iapply (Flight_mono (cnt (F := F)) (c : Thread nD τ) ?_) $$ HF
  refine sep_mono (Entails.of_eq (pointsTo_congr (landA phi f k h))) .rfl

theorem startB (c : Dev nD) (phi : Vec F S128x65536 .f32) (f : Vec F S2x128x8192 .f32) (k : Fin 4) (h : Fin 2) (r : PUnit → KProg F)
    (Q : PUnit → sProp 𝕄) :
    iprop(ptPhi c (pan h (colB k)) phi ∗ ptB c (slab (slot k) h) f ∗ semI c (slot k) 1 h)
      ⊢ iprop((flB c phi k h -∗ wp frame (wpE (defs₀ (F := F)) Variants.none (c : Thread nD τ) none) Set.univ (r ⟨⟩) Q)
        -∗ wp frame (wpE (defs₀ (F := F)) Variants.none (c : Thread nD τ) none) Set.univ
          (.op (.enqueueDma (winB mPhi k h) (.here (slotM mB (slot k) h)) (.dma (semOf cc0_scratch3 (slot k) 1 h))
            (View.wordExact_bits rfl) ((View.wordExact_bits rfl).reshape _ _) ⟨Or.inl rfl, trivial⟩) r) Q) := by
  have key := wp_dmaLocal (cnt (F := F)) Variants.none (c : Thread nD τ) none (defs := defs₀ (F := F)) (Q := Q) (k := r)
    (src := winB mPhi k h) (via := .same) (dst := slotM mB (slot k) h) (sm := .dma (semOf cc0_scratch3 (slot k) 1 h))
    (hsrc := View.wordExact_bits rfl) (hdst := (View.wordExact_bits rfl).reshape _ _) (hsem := ⟨Or.inl rfl, trivial⟩)
    (q := fullShare) (fs := phi) (fd := f) (Sd := (slotM mB (slot k) h).view.set) () amtB rfl amtB_pos (Finset.Subset.refl _)
  rw [set_winB, set_slotB] at key
  refine key.trans ?_
  iintro H HK
  iapply H
  iintro HF
  iapply HK
  iapply (Flight_mono (cnt (F := F)) (c : Thread nD τ) ?_) $$ HF
  refine sep_mono (Entails.of_eq (pointsTo_congr (landB phi f k h))) .rfl

theorem waitA (c : Dev nD) (phi : Vec F S128x65536 .f32) (k : Fin 4) (h : Fin 2) (r : PUnit → KProg F)
    (W : Waits sig Unit) (Q : PUnit → sProp 𝕄) :
    iprop(flA c phi k h ∗ owes (c : Thread nD τ) 0 W)
      ⊢ iprop((iprop((ptA c (slab (slot k) h) (slotV phi (colA k)) ∗ ptPhi c (pan h (colA k)) phi) ∗ semI c (slot k) 0 h
          ∗ owes (c : Thread nD τ) 0 (insert (SemLoc.dma (semOf cc0_scratch3 (slot k) 0 h), ()) W))
          -∗ wp frame (wpE (defs₀ (F := F)) Variants.none (c : Thread nD τ) none) Set.univ (r ⟨⟩) Q)
        -∗ wp frame (wpE (defs₀ (F := F)) Variants.none (c : Thread nD τ) none) Set.univ
          (.op (.waitDma2 (semOf cc0_scratch3 (slot k) 0 h) (winA mPhi k h) (slotM mA (slot k) h)
            (View.wordExact_bits rfl) ((View.wordExact_bits rfl).reshape _ _)) r) Q) :=
  wp_waitLocal (cnt (F := F)) Variants.none (c : Thread nD τ) none (srcw := winA mPhi k h) (dstw := slotM mA (slot k) h)
    (hsrc := View.wordExact_bits rfl) (hdst := (View.wordExact_bits rfl).reshape _ _) () rfl

theorem waitB (c : Dev nD) (phi : Vec F S128x65536 .f32) (k : Fin 4) (h : Fin 2) (r : PUnit → KProg F)
    (W : Waits sig Unit) (Q : PUnit → sProp 𝕄) :
    iprop(flB c phi k h ∗ owes (c : Thread nD τ) 0 W)
      ⊢ iprop((iprop((ptB c (slab (slot k) h) (slotV phi (colB k)) ∗ ptPhi c (pan h (colB k)) phi) ∗ semI c (slot k) 1 h
          ∗ owes (c : Thread nD τ) 0 (insert (SemLoc.dma (semOf cc0_scratch3 (slot k) 1 h), ()) W))
          -∗ wp frame (wpE (defs₀ (F := F)) Variants.none (c : Thread nD τ) none) Set.univ (r ⟨⟩) Q)
        -∗ wp frame (wpE (defs₀ (F := F)) Variants.none (c : Thread nD τ) none) Set.univ
          (.op (.waitDma2 (semOf cc0_scratch3 (slot k) 1 h) (winB mPhi k h) (slotM mB (slot k) h)
            (View.wordExact_bits rfl) ((View.wordExact_bits rfl).reshape _ _)) r) Q) :=
  wp_waitLocal (cnt (F := F)) Variants.none (c : Thread nD τ) none (srcw := winB mPhi k h) (dstw := slotM mB (slot k) h)
    (hsrc := View.wordExact_bits rfl) (hdst := (View.wordExact_bits rfl).reshape _ _) () rfl

variable (P : Fin 2 → Fin 2 → FVec F S128x128 .f32)

/-- The flight of a copy out. -/
abbrev flO (c : Dev nD) (phi : Vec F S128x65536 .f32) (k : Fin 4) (x h : Fin 2) : sProp 𝕄 :=
  Flight (cnt (F := F)) (c : Thread nD τ) (SemLoc.dma (semOf cc0_scratch4 (slot k) x h)) () amtO
    iprop(ptOut c (pan h (32768 * x.val + 8192 * k.val)) (resV P phi) ∗ ptS c (oslab (slot k) x h) (slotO P phi k))

theorem landO (phi f : Vec F S128x65536 .f32) (k : Fin 4) (x h : Fin 2) :
    ∀ i ∈ pan h (32768 * x.val + 8192 * k.val),
      (outM mOut k x h).view.write (Elt F) f ((oslotM mS (slot k) x h).view.read (Elt F) (slotO P phi k)) Finset.univ i
      = resV P phi i := by
  intro i hi
  rw [← set_outM] at hi
  obtain ⟨y, -, rfl⟩ := Finset.mem_map.mp hi
  rw [View.write_emb_of_mem _ _ (Finset.mem_univ y)]
  obtain ⟨e0, e1⟩ := emb_outM k x h y
  obtain ⟨d0, d1, d2⟩ := emb_oslot (slot k) x h y
  have hy : (y 1).val < 8192 := (y 1).isLt
  have hx := x.isLt
  have hk := k.isLt
  have q1 : (32768 * x.val + 8192 * k.val + (y 1).val) / 32768 = x.val := by omega
  have q2 : (32768 * x.val + 8192 * k.val + (y 1).val) % 8192 = (y 1).val := by omega
  have q3 : (Fin.ofNat 4 ((32768 * x.val + 8192 * k.val + (y 1).val) / 8192) : Fin 4) = k := by
    apply Fin.ext
    show (32768 * x.val + 8192 * k.val + (y 1).val) / 8192 % 4 = k.val
    omega
  have q4 : (8192 * x.val + (y 1).val) / 8192 = x.val := by omega
  have q5 : (8192 * x.val + (y 1).val) % 8192 = (y 1).val := by omega
  show outEl P phi k _ _ _ = outEl P phi _ _ _ _
  rw [e0, e1, d1, d2, q1, q2, q3, q4, q5]

theorem startO (c : Dev nD) (phi f : Vec F S128x65536 .f32) (k : Fin 4) (x h : Fin 2) (r : PUnit → KProg F)
    (Q : PUnit → sProp 𝕄) :
    iprop(ptS c (oslab (slot k) x h) (slotO P phi k) ∗ ptOut c (pan h (32768 * x.val + 8192 * k.val)) f ∗ semO c (slot k) x h)
      ⊢ iprop((flO P c phi k x h -∗ wp frame (wpE (defs₀ (F := F)) Variants.none (c : Thread nD τ) none) Set.univ (r ⟨⟩) Q)
        -∗ wp frame (wpE (defs₀ (F := F)) Variants.none (c : Thread nD τ) none) Set.univ
          (.op (.enqueueDma (oslotM mS (slot k) x h) (.here (outM mOut k x h)) (.dma (semOf cc0_scratch4 (slot k) x h))
            ((View.wordExact_bits rfl).reshape _ _) (View.wordExact_bits rfl) ⟨Or.inl rfl, trivial⟩) r) Q) := by
  have key := wp_dmaLocal (cnt (F := F)) Variants.none (c : Thread nD τ) none (defs := defs₀ (F := F)) (Q := Q) (k := r)
    (src := oslotM mS (slot k) x h) (via := .same) (dst := outM mOut k x h) (sm := .dma (semOf cc0_scratch4 (slot k) x h))
    (hsrc := (View.wordExact_bits rfl).reshape _ _) (hdst := View.wordExact_bits rfl) (hsem := ⟨Or.inl rfl, trivial⟩)
    (q := fullShare) (fs := slotO P phi k) (fd := f) (Sd := (outM mOut k x h).view.set) () amtO rfl amtO_pos (Finset.Subset.refl _)
  rw [set_outM, set_oslot] at key
  refine key.trans ?_
  iintro H HK
  iapply H
  iintro HF
  iapply HK
  iapply (Flight_mono (cnt (F := F)) (c : Thread nD τ) ?_) $$ HF
  refine sep_mono (Entails.of_eq (pointsTo_congr (landO P phi f k x h))) .rfl

theorem waitO (c : Dev nD) (phi : Vec F S128x65536 .f32) (k : Fin 4) (x h : Fin 2) (r : PUnit → KProg F)
    (W : Waits sig Unit) (Q : PUnit → sProp 𝕄) :
    iprop(flO P c phi k x h ∗ owes (c : Thread nD τ) 0 W)
      ⊢ iprop((iprop((ptOut c (pan h (32768 * x.val + 8192 * k.val)) (resV P phi) ∗ ptS c (oslab (slot k) x h) (slotO P phi k))
          ∗ semO c (slot k) x h
          ∗ owes (c : Thread nD τ) 0 (insert (SemLoc.dma (semOf cc0_scratch4 (slot k) x h), ()) W))
          -∗ wp frame (wpE (defs₀ (F := F)) Variants.none (c : Thread nD τ) none) Set.univ (r ⟨⟩) Q)
        -∗ wp frame (wpE (defs₀ (F := F)) Variants.none (c : Thread nD τ) none) Set.univ
          (.op (.waitDma2 (semOf cc0_scratch4 (slot k) x h) (oslotM mS (slot k) x h) (outM mOut k x h)
            ((View.wordExact_bits rfl).reshape _ _) (View.wordExact_bits rfl)) r) Q) :=
  wp_waitLocal (cnt (F := F)) Variants.none (c : Thread nD τ) none (srcw := oslotM mS (slot k) x h) (dstw := outM mOut k x h)
    (hsrc := (View.wordExact_bits rfl).reshape _ _) (hdst := View.wordExact_bits rfl) () rfl

end Cert.Ring

end
-- ==== Proof.Steps.lean ====
/- The computation of a phase: one step's triple, and the sixty-four steps' by induction on how many are left. -/
module

public import proofs.«01_k».proof.Proof.Copies

@[expose] public section

set_option maxRecDepth 16384

noncomputable section

namespace Cert.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Facts₀ Cert.KernelIdeal.Facts

variable {F : FTy → Type} [FloatOps F]

local notation "𝕄" => MT nD τ sig Unit (Elt F) ℕ (Pipeline.UD sig nD τ) ℕ

/-- The block of an operand's slot a step loads. -/
abbrev rIn (s : Fin 2) (t : Fin 64) : Rect S2x128x8192 :=
  Rect.unit (s := S2x128x8192) ![s.val, 0, pcol s t] S1x128x128.size (inb_load s t)
/-- The block of the output slot a step stores in its low half. -/
abbrev rLo (s : Fin 2) (t : Fin 64) : Rect S2x128x16384 :=
  Rect.unit (s := S2x128x16384) ![s.val, 0, t.val * 128] S1x128x128.size (inb_lo s t)
/-- The block of the output slot a step stores in its high half. -/
abbrev rHi (s : Fin 2) (t : Fin 64) : Rect S2x128x16384 :=
  Rect.unit (s := S2x128x16384) ![s.val, 0, 8192 + t.val * 128] S1x128x128.size (inb_hi s t)

theorem rIn_mem {s : Fin 2} {t : Fin 64} {i : S2x128x8192.Idx} (h : i ∈ (rIn s t).set) : i ∈ slotS s := by
  rw [Rect.mem_set_unit] at h
  have a : s.val ≤ (i 0).val := (h 0).1
  have b : (i 0).val < s.val + 1 := (h 0).2
  rw [mem_slotS]; omega

theorem rLo_mem {s : Fin 2} {t : Fin 64} {i : S2x128x16384.Idx} : i ∈ (rLo s t).set ↔
    (i 0).val = s.val ∧ t.val * 128 ≤ (i 2).val ∧ (i 2).val < t.val * 128 + 128 := by
  rw [Rect.mem_set_unit, Fin.forall_fin_succ, Fin.forall_fin_succ, Fin.forall_fin_succ]
  have h1 := idx3_1 i
  constructor
  · rintro ⟨⟨a, b⟩, -, c, -⟩
    have a : s.val ≤ (i 0).val := a
    have b : (i 0).val < s.val + 1 := b
    exact ⟨by omega, c⟩
  · rintro ⟨a, c⟩
    refine ⟨⟨?_, ?_⟩, ⟨Nat.zero_le _, ?_⟩, c, fun a => a.elim0⟩
    · show s.val ≤ (i 0).val; omega
    · show (i 0).val < s.val + 1; omega
    · show (i 1).val < 0 + 128; omega

theorem rHi_mem {s : Fin 2} {t : Fin 64} {i : S2x128x16384.Idx} : i ∈ (rHi s t).set ↔
    (i 0).val = s.val ∧ 8192 + t.val * 128 ≤ (i 2).val ∧ (i 2).val < 8192 + t.val * 128 + 128 := by
  rw [Rect.mem_set_unit, Fin.forall_fin_succ, Fin.forall_fin_succ, Fin.forall_fin_succ]
  have h1 := idx3_1 i
  constructor
  · rintro ⟨⟨a, b⟩, -, c, -⟩
    have a : s.val ≤ (i 0).val := a
    have b : (i 0).val < s.val + 1 := b
    exact ⟨by omega, c⟩
  · rintro ⟨a, c⟩
    refine ⟨⟨?_, ?_⟩, ⟨Nat.zero_le _, ?_⟩, c, fun a => a.elim0⟩
    · show s.val ≤ (i 0).val; omega
    · show (i 0).val < s.val + 1; omega
    · show (i 1).val < 0 + 128; omega

theorem set_inA (s : Fin 2) (t : Fin 64) : (mA.access (rIn s t)).set = (rIn s t).set := View.set_slice_whole cc0_scratch0 _
theorem set_inB (s : Fin 2) (t : Fin 64) : (mB.access (rIn s t)).set = (rIn s t).set := View.set_slice_whole cc0_scratch1 _
theorem set_lo (s : Fin 2) (t : Fin 64) : (mS.access (rLo s t)).set = (rLo s t).set := View.set_slice_whole cc0_scratch2 _
theorem set_hi (s : Fin 2) (t : Fin 64) : (mS.access (rHi s t)).set = (rHi s t).set := View.set_slice_whole cc0_scratch2 _

/-- What a step loads of the first operand. -/
theorem read_inA (phi : Vec F S128x65536 .f32) (lo : Nat) (s : Fin 2) (t : Fin 64) :
    (mA.access (rIn s t)).read (Elt F) (slotV phi lo) = blk phi (lo + pcol s t) := by
  funext x
  have e1 : (((mA.access (rIn s t)).emb x : S2x128x8192.Idx) 1).val = 0 + (x 1).val :=
    ValueKit.view_emb_slice_whole_unit_val cc0_scratch0 _ _ (inb_load s t) x 1
  have e2 : (((mA.access (rIn s t)).emb x : S2x128x8192.Idx) 2).val = pcol s t + (x 2).val :=
    ValueKit.view_emb_slice_whole_unit_val cc0_scratch0 _ _ (inb_load s t) x 2
  show el phi _ _ = el phi _ _
  rw [e1, e2, Nat.zero_add, Nat.add_assoc]

/-- What a step loads of the second operand. -/
theorem read_inB (phi : Vec F S128x65536 .f32) (lo : Nat) (s : Fin 2) (t : Fin 64) :
    (mB.access (rIn s t)).read (Elt F) (slotV phi lo) = blk phi (lo + pcol s t) := by
  funext x
  have e1 : (((mB.access (rIn s t)).emb x : S2x128x8192.Idx) 1).val = 0 + (x 1).val :=
    ValueKit.view_emb_slice_whole_unit_val cc0_scratch1 _ _ (inb_load s t) x 1
  have e2 : (((mB.access (rIn s t)).emb x : S2x128x8192.Idx) 2).val = pcol s t + (x 2).val :=
    ValueKit.view_emb_slice_whole_unit_val cc0_scratch1 _ _ (inb_load s t) x 2
  show el phi _ _ = el phi _ _
  rw [e1, e2, Nat.zero_add, Nat.add_assoc]

variable (P : Fin 2 → Fin 2 → FVec F S128x128 .f32)

/-- The output slot is the phase's in the columns the first `n` steps wrote. -/
def Done (phi : Vec F S128x65536 .f32) (k : Fin 4) (n : Nat) (f : Vec F S2x128x16384 .f32) : Prop :=
  ∀ i : S2x128x16384.Idx, (i 0).val = (slot k).val → (i 2).val % 8192 < n * 128 → f i = slotO P phi k i

/-- One step's two stores extend what is done by one block in each half. -/
theorem done_step (phi : Vec F S128x65536 .f32) (k : Fin 4) (t : Fin 64) (f : Vec F S2x128x16384 .f32) (h : Done P phi k t.val f) :
    Done P phi k (t.val + 1) ((mS.access (rHi (slot k) t)).write (Elt F)
      ((mS.access (rLo (slot k) t)).write (Elt F) f (outBlk P phi k 0 t) Finset.univ) (outBlk P phi k 1 t) Finset.univ) := by
  intro i h0 h2
  have ht := t.isLt
  have hi2 := idx3_2 i
  by_cases hH : i ∈ (mS.access (rHi (slot k) t)).set
  · obtain ⟨x, -, rfl⟩ := Finset.mem_map.mp hH
    rw [View.write_emb_of_mem _ _ (Finset.mem_univ x)]
    have e1 : (((mS.access (rHi (slot k) t)).emb x : S2x128x16384.Idx) 1).val = 0 + (x 1).val :=
      ValueKit.view_emb_slice_whole_unit_val cc0_scratch2 _ _ (inb_hi (slot k) t) x 1
    have e2 : (((mS.access (rHi (slot k) t)).emb x : S2x128x16384.Idx) 2).val = 8192 + t.val * 128 + (x 2).val :=
      ValueKit.view_emb_slice_whole_unit_val cc0_scratch2 _ _ (inb_hi (slot k) t) x 2
    have hx : (x 2).val < 128 := (x 2).isLt
    have q1 : (8192 + t.val * 128 + (x 2).val) / 8192 = 1 := by omega
    have q2 : (8192 + t.val * 128 + (x 2).val) % 8192 = t.val * 128 + (x 2).val := by omega
    show outBlk P phi k 1 t x = outEl P phi k _ _ _
    rw [e1, e2, q1, q2, Nat.zero_add]
    exact (outEl_eq P phi k 1 t x rfl rfl).symm
  · rw [View.write_of_not_mem _ _ _ hH]
    rw [set_hi, rHi_mem] at hH
    by_cases hL : i ∈ (mS.access (rLo (slot k) t)).set
    · obtain ⟨x, -, rfl⟩ := Finset.mem_map.mp hL
      rw [View.write_emb_of_mem _ _ (Finset.mem_univ x)]
      have e1 : (((mS.access (rLo (slot k) t)).emb x : S2x128x16384.Idx) 1).val = 0 + (x 1).val :=
        ValueKit.view_emb_slice_whole_unit_val cc0_scratch2 _ _ (inb_lo (slot k) t) x 1
      have e2 : (((mS.access (rLo (slot k) t)).emb x : S2x128x16384.Idx) 2).val = t.val * 128 + (x 2).val :=
        ValueKit.view_emb_slice_whole_unit_val cc0_scratch2 _ _ (inb_lo (slot k) t) x 2
      have hx : (x 2).val < 128 := (x 2).isLt
      have q1 : (t.val * 128 + (x 2).val) / 8192 = 0 := by omega
      have q2 : (t.val * 128 + (x 2).val) % 8192 = t.val * 128 + (x 2).val := by omega
      show outBlk P phi k 0 t x = outEl P phi k _ _ _
      rw [e1, e2, q1, q2, Nat.zero_add]
      exact (outEl_eq P phi k 0 t x rfl rfl).symm
    · rw [View.write_of_not_mem _ _ _ hL]
      rw [set_lo, rLo_mem] at hL
      refine h i h0 ?_
      by_contra hc
      rw [not_lt] at hc
      rcases Nat.lt_or_ge (i 2).val 8192 with hlt | hge
      · exact hL ⟨h0, by omega, by omega⟩
      · exact hH ⟨h0, by omega, by omega⟩

/-- What one step does. -/
theorem step_wp (c : Dev nD) (phi : Vec F S128x65536 .f32) (k : Fin 4) (t : Fin 64) (f : Vec F S2x128x16384 .f32) (r : KProg F)
    (Q : PUnit → sProp 𝕄) (hf : Done P phi k t.val f) :
    iprop(ptA c (slotS (slot k)) (slotV phi (colA k)) ∗ ptB c (slotS (slot k)) (slotV phi (colB k)) ∗ ptS c (oslotS (slot k)) f)
      ⊢ iprop(((ptA c (slotS (slot k)) (slotV phi (colA k)) ∗ ptB c (slotS (slot k)) (slotV phi (colB k))
            ∗ ∃ g, ⌜Done P phi k (t.val + 1) g⌝ ∗ ptS c (oslotS (slot k)) g)
          -∗ wp frame (wpE (defs₀ (F := F)) Variants.none (c : Thread nD τ) none) Set.univ r Q)
        -∗ wp frame (wpE (defs₀ (F := F)) Variants.none (c : Thread nD τ) none) Set.univ
          (step mA mB mS (slot k) t (par t (P 0 0) (P 1 0)) (par t (P 0 1) (P 1 1)) r) Q) := by
  have hA : (mA.access (rIn (slot k) t)).set ⊆ slotS (slot k) := fun i hi => rIn_mem (by rwa [set_inA] at hi)
  have hB : (mB.access (rIn (slot k) t)).set ⊆ slotS (slot k) := fun i hi => rIn_mem (by rwa [set_inB] at hi)
  have hL : (mS.access (rLo (slot k) t)).set ⊆ oslotS (slot k) := fun i hi => by
    rw [set_lo, rLo_mem] at hi; exact mem_oslotS.mpr hi.1
  have hH : (mS.access (rHi (slot k) t)).set ⊆ oslotS (slot k) := fun i hi => by
    rw [set_hi, rHi_mem] at hi; exact mem_oslotS.mpr hi.1
  unfold step
  iintro ⟨HA, HB, HS⟩ HK
  iapply (wp_load_rect Variants.none (c : Thread nD τ) none Set.univ hA) $$ HA
  iintro HA
  rw [read_inA]
  iapply (wp_load_rect Variants.none (c : Thread nD τ) none Set.univ hB) $$ HB
  iintro HB
  rw [read_inB]
  iapply (wp_load_rect Variants.none (c : Thread nD τ) none Set.univ hL) $$ HS
  iintro HS
  iapply (wp_store Variants.none (c : Thread nD τ) none Set.univ hL) $$ HS
  iintro HS
  iapply (wp_load_rect Variants.none (c : Thread nD τ) none Set.univ hH) $$ HS
  iintro HS
  iapply (wp_store Variants.none (c : Thread nD τ) none Set.univ hH) $$ HS
  iintro HS
  iapply HK
  isplitl [HA]; · iexact HA
  isplitl [HB]; · iexact HB
  iexists _
  isplitr
  · ipureintro; exact done_step P phi k t f hf
  iexact HS

/-- What the last `n` steps do. -/
theorem steps_wp_aux (c : Dev nD) (phi : Vec F S128x65536 .f32) (k : Fin 4) (r : KProg F) (Q : PUnit → sProp 𝕄) (n : Nat) (hn : n ≤ 64)
    (f : Vec F S2x128x16384 .f32) (hf : Done P phi k (64 - n) f) :
    iprop(ptA c (slotS (slot k)) (slotV phi (colA k)) ∗ ptB c (slotS (slot k)) (slotV phi (colB k)) ∗ ptS c (oslotS (slot k)) f)
      ⊢ iprop(((ptA c (slotS (slot k)) (slotV phi (colA k)) ∗ ptB c (slotS (slot k)) (slotV phi (colB k))
            ∗ ptS c (oslotS (slot k)) (slotO P phi k))
          -∗ wp frame (wpE (defs₀ (F := F)) Variants.none (c : Thread nD τ) none) Set.univ r Q)
        -∗ wp frame (wpE (defs₀ (F := F)) Variants.none (c : Thread nD τ) none) Set.univ
          (steps mA mB mS (slot k) (P 0 0) (P 0 1) (P 1 0) (P 1 1) n r) Q) := by
  induction n generalizing f with
  | zero =>
    iintro ⟨HA, HB, HS⟩ HK
    unfold steps
    iapply HK
    isplitl [HA]; · iexact HA
    isplitl [HB]; · iexact HB
    have e : ∀ i ∈ oslotS (slot k), f i = slotO P phi k i := fun i hi => hf i (mem_oslotS.mp hi) (by
      have := Nat.mod_lt (i 2).val (show 0 < 8192 by decide)
      omega)
    iapply (Entails.of_eq (pointsTo_congr (ℓ := mS.view.loc (c : Thread nD τ)) e)) $$ HS
  | succ n ih =>
    iintro H HK
    unfold steps
    iapply (step_wp P c phi k ⟨63 - n, _⟩ f _ Q (by
      have e : 64 - (n + 1) = 63 - n := by omega
      show Done P phi k (63 - n) f
      rw [← e]; exact hf)) $$ H
    iintro ⟨HA, HB, ⟨%g, %hg, HS⟩⟩
    have hg' : Done P phi k (64 - n) g := by
      have e : 63 - n + 1 = 64 - n := by omega
      rw [← e]; exact hg
    iapply (ih (by omega) g hg') $$ [HA HB HS]
    · isplitl [HA]; · iexact HA
      isplitl [HB]; · iexact HB
      iexact HS
    iexact HK

/-- What a phase's steps do: the output slot ends at the phase's blocks. -/
theorem steps_wp (c : Dev nD) (phi : Vec F S128x65536 .f32) (k : Fin 4) (f : Vec F S2x128x16384 .f32) (r : KProg F) (Q : PUnit → sProp 𝕄) :
    iprop(ptA c (slotS (slot k)) (slotV phi (colA k)) ∗ ptB c (slotS (slot k)) (slotV phi (colB k)) ∗ ptS c (oslotS (slot k)) f)
      ⊢ iprop(((ptA c (slotS (slot k)) (slotV phi (colA k)) ∗ ptB c (slotS (slot k)) (slotV phi (colB k))
            ∗ ptS c (oslotS (slot k)) (slotO P phi k))
          -∗ wp frame (wpE (defs₀ (F := F)) Variants.none (c : Thread nD τ) none) Set.univ r Q)
        -∗ wp frame (wpE (defs₀ (F := F)) Variants.none (c : Thread nD τ) none) Set.univ
          (steps mA mB mS (slot k) (P 0 0) (P 0 1) (P 1 0) (P 1 1) 64 r) Q) :=
  steps_wp_aux P c phi k r Q 64 (Nat.le_refl _) f fun i _ h => absurd h (by omega)

end Cert.Ring

end
-- ==== Proof.Phases.lean ====
/- The four kinds of a phase's parts as triples on whole slots: its copies started, waited for, its steps run, its copies out
   started and waited for. -/
module

public import proofs.«01_k».proof.Proof.Steps

@[expose] public section

set_option maxRecDepth 16384

noncomputable section

namespace Cert.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Facts₀ Cert.KernelIdeal.Facts

variable {F : FTy → Type} [FloatOps F]

local notation "𝕄" => MT nD τ sig Unit (Elt F) ℕ (Pipeline.UD sig nD τ) ℕ

theorem slotS_eq (s : Fin 2) : slotS s = slab s 0 ∪ slab s 1 := by
  ext i
  have h := idx3_1 i
  rw [Finset.mem_union, mem_slotS, mem_slab, mem_slab]
  show _ ↔ (_ ∧ 64 * 0 ≤ _ ∧ _ < 64 * 0 + 64) ∨ (_ ∧ 64 * 1 ≤ _ ∧ _ < 64 * 1 + 64)
  omega

theorem slab_disj (s : Fin 2) : Disjoint (slab s 0) (slab s 1) := by
  rw [Finset.disjoint_left]
  intro i h h'
  rw [mem_slab] at h h'
  have a : (i 1).val < 64 * 0 + 64 := h.2.2
  have b : 64 * 1 ≤ (i 1).val := h'.2.1
  omega

theorem split_A (c : Dev nD) (s : Fin 2) (f : Vec F S2x128x8192 .f32) :
    (ptA c (slotS s) f : sProp 𝕄) ⊣⊢ iprop(ptA c (slab s 0) f ∗ ptA c (slab s 1) f) := by
  rw [slotS_eq]; exact pointsTo_union (slab_disj s)

theorem split_B (c : Dev nD) (s : Fin 2) (f : Vec F S2x128x8192 .f32) :
    (ptB c (slotS s) f : sProp 𝕄) ⊣⊢ iprop(ptB c (slab s 0) f ∗ ptB c (slab s 1) f) := by
  rw [slotS_eq]; exact pointsTo_union (slab_disj s)

theorem oslotS_eq (s : Fin 2) : oslotS s = (oslab s 0 0 ∪ oslab s 1 0) ∪ (oslab s 0 1 ∪ oslab s 1 1) := by
  ext i
  have h := idx3_1 i
  have h' := idx3_2 i
  simp only [Finset.mem_union, mem_oslotS, mem_oslab, show (0 : Fin 2).val = 0 from rfl, show (1 : Fin 2).val = 1 from rfl]
  omega

theorem oslab_disj (s h : Fin 2) : Disjoint (oslab s 0 h) (oslab s 1 h) := by
  rw [Finset.disjoint_left]
  intro i h h'
  simp only [mem_oslab, show (0 : Fin 2).val = 0 from rfl, show (1 : Fin 2).val = 1 from rfl] at h h'
  omega

theorem oslab_disj' (s : Fin 2) : Disjoint (oslab s 0 0 ∪ oslab s 1 0) (oslab s 0 1 ∪ oslab s 1 1) := by
  rw [Finset.disjoint_left]
  intro i h h'
  simp only [Finset.mem_union, mem_oslab, show (0 : Fin 2).val = 0 from rfl, show (1 : Fin 2).val = 1 from rfl] at h h'
  omega

theorem split_S (c : Dev nD) (s : Fin 2) (f : Vec F S2x128x16384 .f32) :
    (ptS c (oslotS s) f : sProp 𝕄) ⊣⊢ iprop((ptS c (oslab s 0 0) f ∗ ptS c (oslab s 1 0) f) ∗ (ptS c (oslab s 0 1) f ∗ ptS c (oslab s 1 1) f)) := by
  rw [oslotS_eq]
  refine (pointsTo_union (oslab_disj' s)).trans ?_
  exact sep_congr (pointsTo_union (oslab_disj s 0)) (pointsTo_union (oslab_disj s 1))

/-- The operand's elements phase `k` copies in. -/
abbrev phiK (c : Dev nD) (phi : Vec F S128x65536 .f32) (k : Fin 4) : sProp 𝕄 :=
  iprop((ptPhi c (pan 0 (colA k)) phi ∗ ptPhi c (pan 0 (colB k)) phi) ∗ (ptPhi c (pan 1 (colA k)) phi ∗ ptPhi c (pan 1 (colB k)) phi))

/-- The result's elements phase `k` copies out to. -/
abbrev outK (c : Dev nD) (f : Vec F S128x65536 .f32) (k : Fin 4) : sProp 𝕄 :=
  iprop((ptOut c (pan 0 (32768 * (0 : Fin 2).val + 8192 * k.val)) f ∗ ptOut c (pan 0 (32768 * (1 : Fin 2).val + 8192 * k.val)) f)
    ∗ (ptOut c (pan 1 (32768 * (0 : Fin 2).val + 8192 * k.val)) f ∗ ptOut c (pan 1 (32768 * (1 : Fin 2).val + 8192 * k.val)) f))

/-- A slot's four copy-in semaphores. -/
abbrev semsI (c : Dev nD) (s : Fin 2) : sProp 𝕄 :=
  iprop((semI c s 0 0 ∗ semI c s 1 0) ∗ (semI c s 0 1 ∗ semI c s 1 1))
/-- A slot's four copy-out semaphores. -/
abbrev semsO (c : Dev nD) (s : Fin 2) : sProp 𝕄 :=
  iprop((semO c s 0 0 ∗ semO c s 1 0) ∗ (semO c s 0 1 ∗ semO c s 1 1))

/-- A phase's four copies in, in flight. -/
abbrev flI (c : Dev nD) (phi : Vec F S128x65536 .f32) (k : Fin 4) : sProp 𝕄 :=
  iprop((flA c phi k 0 ∗ flB c phi k 0) ∗ (flA c phi k 1 ∗ flB c phi k 1))

/-- What the core may still owe its waits. -/
abbrev owe (c : Dev nD) : sProp 𝕄 := iprop(∃ W, owes (c : Thread nD τ) 0 W)

theorem inStart_wp (c : Dev nD) (phi : Vec F S128x65536 .f32) (fA fB : Vec F S2x128x8192 .f32) (k : Fin 4) (s : Fin 2) (hs : slot k = s) (r : KProg F)
    (Q : PUnit → sProp 𝕄) :
    iprop(phiK c phi k ∗ ptA c (slotS s) fA ∗ ptB c (slotS s) fB ∗ semsI c s)
      ⊢ iprop((flI c phi k -∗ wp frame (wpE (defs₀ (F := F)) Variants.none (c : Thread nD τ) none) Set.univ r Q)
        -∗ wp frame (wpE (defs₀ (F := F)) Variants.none (c : Thread nD τ) none) Set.univ
          (inStart mPhi mA mB cc0_scratch3 k r) Q) := by
  subst hs
  unfold inStart inStart1
  refine (sep_mono .rfl (sep_mono (split_A c (slot k) fA).1 (sep_mono (split_B c (slot k) fB).1 .rfl))).trans ?_
  iintro ⟨⟨⟨Ha0, Hb0⟩, ⟨Ha1, Hb1⟩⟩, ⟨HA0, HA1⟩, ⟨HB0, HB1⟩, ⟨⟨S0, S1⟩, ⟨S2, S3⟩⟩⟩ HK
  iapply (startA c phi fA k 0) $$ [Ha0 HA0 S0]
  · isplitl [Ha0]; · iexact Ha0
    isplitl [HA0] <;> iassumption
  iintro F0
  iapply (startB c phi fB k 0) $$ [Hb0 HB0 S1]
  · isplitl [Hb0]; · iexact Hb0
    isplitl [HB0] <;> iassumption
  iintro F1
  iapply (startA c phi fA k 1) $$ [Ha1 HA1 S2]
  · isplitl [Ha1]; · iexact Ha1
    isplitl [HA1] <;> iassumption
  iintro F2
  iapply (startB c phi fB k 1) $$ [Hb1 HB1 S3]
  · isplitl [Hb1]; · iexact Hb1
    isplitl [HB1] <;> iassumption
  iintro F3
  iapply HK
  isplitl [F0 F1]
  · isplitl [F0] <;> iassumption
  isplitl [F2] <;> iassumption

theorem inWait_wp (c : Dev nD) (phi : Vec F S128x65536 .f32) (k : Fin 4) (s : Fin 2) (hs : slot k = s) (r : KProg F) (Q : PUnit → sProp 𝕄) :
    iprop(flI c phi k ∗ owe c)
      ⊢ iprop(((phiK c phi k ∗ ptA c (slotS s) (slotV phi (colA k)) ∗ ptB c (slotS s) (slotV phi (colB k))
            ∗ semsI c s ∗ owe c)
          -∗ wp frame (wpE (defs₀ (F := F)) Variants.none (c : Thread nD τ) none) Set.univ r Q)
        -∗ wp frame (wpE (defs₀ (F := F)) Variants.none (c : Thread nD τ) none) Set.univ
          (inWait mPhi mA mB cc0_scratch3 k r) Q) := by
  subst hs
  unfold inWait inWait1
  iintro ⟨⟨⟨F0, F1⟩, ⟨F2, F3⟩⟩, ⟨%W, HW⟩⟩ HK
  iapply (waitA c phi k 0 _ W) $$ [F0 HW]
  · isplitl [F0] <;> iassumption
  iintro ⟨⟨HA0, Ha0⟩, S0, HW⟩
  iapply (waitB c phi k 0 _ _) $$ [F1 HW]
  · isplitl [F1] <;> iassumption
  iintro ⟨⟨HB0, Hb0⟩, S1, HW⟩
  iapply (waitA c phi k 1 _ _) $$ [F2 HW]
  · isplitl [F2] <;> iassumption
  iintro ⟨⟨HA1, Ha1⟩, S2, HW⟩
  iapply (waitB c phi k 1 _ _) $$ [F3 HW]
  · isplitl [F3] <;> iassumption
  iintro ⟨⟨HB1, Hb1⟩, S3, HW⟩
  iapply HK
  isplitl [Ha0 Hb0 Ha1 Hb1]
  · isplitl [Ha0 Hb0]
    · isplitl [Ha0] <;> iassumption
    isplitl [Ha1] <;> iassumption
  isplitl [HA0 HA1]
  · iapply (split_A c (slot k) _).2
    isplitl [HA0] <;> iassumption
  isplitl [HB0 HB1]
  · iapply (split_B c (slot k) _).2
    isplitl [HB0] <;> iassumption
  isplitl [S0 S1 S2 S3]
  · isplitl [S0 S1]
    · isplitl [S0] <;> iassumption
    isplitl [S2] <;> iassumption
  iexists _
  iexact HW

variable (P : Fin 2 → Fin 2 → FVec F S128x128 .f32)

/-- A phase's four copies out, in flight. -/
abbrev flOut (c : Dev nD) (phi : Vec F S128x65536 .f32) (k : Fin 4) : sProp 𝕄 :=
  iprop((flO P c phi k 0 0 ∗ flO P c phi k 1 0) ∗ (flO P c phi k 0 1 ∗ flO P c phi k 1 1))

theorem outStart_wp (c : Dev nD) (phi f : Vec F S128x65536 .f32) (k : Fin 4) (s : Fin 2) (hs : slot k = s) (r : KProg F) (Q : PUnit → sProp 𝕄) :
    iprop(ptS c (oslotS s) (slotO P phi k) ∗ outK c f k ∗ semsO c s)
      ⊢ iprop((flOut P c phi k -∗ wp frame (wpE (defs₀ (F := F)) Variants.none (c : Thread nD τ) none) Set.univ r Q)
        -∗ wp frame (wpE (defs₀ (F := F)) Variants.none (c : Thread nD τ) none) Set.univ
          (outStart mOut mS cc0_scratch4 k r) Q) := by
  subst hs
  unfold outStart outStart1
  refine (sep_mono (split_S c (slot k) _).1 .rfl).trans ?_
  iintro ⟨⟨⟨H0, H1⟩, ⟨H2, H3⟩⟩, ⟨⟨O0, O1⟩, ⟨O2, O3⟩⟩, ⟨⟨S0, S1⟩, ⟨S2, S3⟩⟩⟩ HK
  iapply (startO P c phi f k 0 0) $$ [H0 O0 S0]
  · isplitl [H0]; · iexact H0
    isplitl [O0] <;> iassumption
  iintro F0
  iapply (startO P c phi f k 1 0) $$ [H1 O1 S1]
  · isplitl [H1]; · iexact H1
    isplitl [O1] <;> iassumption
  iintro F1
  iapply (startO P c phi f k 0 1) $$ [H2 O2 S2]
  · isplitl [H2]; · iexact H2
    isplitl [O2] <;> iassumption
  iintro F2
  iapply (startO P c phi f k 1 1) $$ [H3 O3 S3]
  · isplitl [H3]; · iexact H3
    isplitl [O3] <;> iassumption
  iintro F3
  iapply HK
  isplitl [F0 F1]
  · isplitl [F0] <;> iassumption
  isplitl [F2] <;> iassumption

theorem outWait_wp (c : Dev nD) (phi : Vec F S128x65536 .f32) (k : Fin 4) (s : Fin 2) (hs : slot k = s) (r : KProg F) (Q : PUnit → sProp 𝕄) :
    iprop(flOut P c phi k ∗ owe c)
      ⊢ iprop(((outK c (resV P phi) k ∗ ptS c (oslotS s) (slotO P phi k) ∗ semsO c s ∗ owe c)
          -∗ wp frame (wpE (defs₀ (F := F)) Variants.none (c : Thread nD τ) none) Set.univ r Q)
        -∗ wp frame (wpE (defs₀ (F := F)) Variants.none (c : Thread nD τ) none) Set.univ
          (outWait mOut mS cc0_scratch4 k r) Q) := by
  subst hs
  unfold outWait outWait1
  iintro ⟨⟨⟨F0, F1⟩, ⟨F2, F3⟩⟩, ⟨%W, HW⟩⟩ HK
  iapply (waitO P c phi k 0 0 _ W) $$ [F0 HW]
  · isplitl [F0] <;> iassumption
  iintro ⟨⟨O0, H0⟩, S0, HW⟩
  iapply (waitO P c phi k 1 0 _ _) $$ [F1 HW]
  · isplitl [F1] <;> iassumption
  iintro ⟨⟨O1, H1⟩, S1, HW⟩
  iapply (waitO P c phi k 0 1 _ _) $$ [F2 HW]
  · isplitl [F2] <;> iassumption
  iintro ⟨⟨O2, H2⟩, S2, HW⟩
  iapply (waitO P c phi k 1 1 _ _) $$ [F3 HW]
  · isplitl [F3] <;> iassumption
  iintro ⟨⟨O3, H3⟩, S3, HW⟩
  iapply HK
  isplitl [O0 O1 O2 O3]
  · isplitl [O0 O1]
    · isplitl [O0] <;> iassumption
    isplitl [O2] <;> iassumption
  isplitl [H0 H1 H2 H3]
  · iapply (split_S c (slot k) _).2
    isplitl [H0 H1]
    · isplitl [H0] <;> iassumption
    isplitl [H2] <;> iassumption
  isplitl [S0 S1 S2 S3]
  · isplitl [S0 S1]
    · isplitl [S0] <;> iassumption
    isplitl [S2] <;> iassumption
  iexists _
  iexact HW

/-- A phase's steps on the slot it uses. -/
theorem comp_wp (c : Dev nD) (phi : Vec F S128x65536 .f32) (k : Fin 4) (s : Fin 2) (hs : slot k = s) (f : Vec F S2x128x16384 .f32)
    (r : KProg F) (Q : PUnit → sProp 𝕄) :
    iprop(ptA c (slotS s) (slotV phi (colA k)) ∗ ptB c (slotS s) (slotV phi (colB k)) ∗ ptS c (oslotS s) f)
      ⊢ iprop(((ptA c (slotS s) (slotV phi (colA k)) ∗ ptB c (slotS s) (slotV phi (colB k)) ∗ ptS c (oslotS s) (slotO P phi k))
          -∗ wp frame (wpE (defs₀ (F := F)) Variants.none (c : Thread nD τ) none) Set.univ r Q)
        -∗ wp frame (wpE (defs₀ (F := F)) Variants.none (c : Thread nD τ) none) Set.univ
          (steps mA mB mS s (P 0 0) (P 0 1) (P 1 0) (P 1 1) 64 r) Q) := by
  subst hs
  exact steps_wp P c phi k f r Q

end Cert.Ring

end
-- ==== Proof.Body.lean ====
/- The whole body: from the operand, the result's array, the slots and the semaphores to the result at its closed form and
   everything else given back. -/
module

public import proofs.«01_k».proof.Proof.Phases

@[expose] public section

set_option maxRecDepth 16384

noncomputable section

namespace Cert.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Transfers
open Cert.KernelIdeal Cert.KernelIdeal.Facts₀ Cert.KernelIdeal.Facts

variable {F : FTy → Type} [FloatOps F]

local notation "𝕄" => MT nD τ sig Unit (Elt F) ℕ (Pipeline.UD sig nD τ) ℕ

/-! ## The arrays as the phases' pieces -/

/-- The columns phase `k` copies in. -/
def phiI (k : Fin 4) : Finset S128x65536.Idx := (pan 0 (colA k) ∪ pan 0 (colB k)) ∪ (pan 1 (colA k) ∪ pan 1 (colB k))

theorem pan_or {i : S128x65536.Idx} {a b : Nat} :
    i ∈ (pan 0 a ∪ pan 0 b) ∪ (pan 1 a ∪ pan 1 b) ↔
      (a ≤ (i 1).val ∧ (i 1).val < a + 8192) ∨ (b ≤ (i 1).val ∧ (i 1).val < b + 8192) := by
  have h : (i 0).val < 128 := (i 0).isLt
  simp only [Finset.mem_union, mem_pan, show (0 : Fin 2).val = 0 from rfl, show (1 : Fin 2).val = 1 from rfl]
  omega

theorem pan_disj {h : Fin 2} {a b : Nat} (hab : a + 8192 ≤ b) : Disjoint (pan h a) (pan h b) := by
  rw [Finset.disjoint_left]
  intro i h h'
  rw [mem_pan] at h h'
  omega

theorem pan_disj' {a b a' b' : Nat} : Disjoint (pan 0 a ∪ pan 0 b) (pan 1 a' ∪ pan 1 b') := by
  rw [Finset.disjoint_left]
  intro i h h'
  simp only [Finset.mem_union, mem_pan, show (0 : Fin 2).val = 0 from rfl, show (1 : Fin 2).val = 1 from rfl] at h h'
  omega

theorem colAB : ∀ k : Fin 4, colA k + 8192 ≤ colB k := by decide +kernel

theorem mem_phiI {k : Fin 4} {i : S128x65536.Idx} : i ∈ phiI k ↔
    (colA k ≤ (i 1).val ∧ (i 1).val < colA k + 8192) ∨ (colB k ≤ (i 1).val ∧ (i 1).val < colB k + 8192) := pan_or

theorem phiK_eq (c : Dev nD) (phi : Vec F S128x65536 .f32) (k : Fin 4) : (ptPhi c (phiI k) phi : sProp 𝕄) ⊣⊢ phiK c phi k := by
  refine (pointsTo_union pan_disj').trans ?_
  exact sep_congr (pointsTo_union (pan_disj (colAB k))) (pointsTo_union (pan_disj (colAB k)))

/-- The columns phase `k` copies out to. -/
def outI (k : Fin 4) : Finset S128x65536.Idx :=
  (pan 0 (32768 * (0 : Fin 2).val + 8192 * k.val) ∪ pan 0 (32768 * (1 : Fin 2).val + 8192 * k.val))
    ∪ (pan 1 (32768 * (0 : Fin 2).val + 8192 * k.val) ∪ pan 1 (32768 * (1 : Fin 2).val + 8192 * k.val))

theorem colOut (k : Fin 4) : 32768 * (0 : Fin 2).val + 8192 * k.val + 8192 ≤ 32768 * (1 : Fin 2).val + 8192 * k.val := by
  revert k; decide +kernel

theorem mem_outI {k : Fin 4} {i : S128x65536.Idx} : i ∈ outI k ↔
    (8192 * k.val ≤ (i 1).val ∧ (i 1).val < 8192 * k.val + 8192)
      ∨ (32768 + 8192 * k.val ≤ (i 1).val ∧ (i 1).val < 32768 + 8192 * k.val + 8192) := by
  unfold outI
  rw [pan_or]
  simp only [show (0 : Fin 2).val = 0 from rfl, show (1 : Fin 2).val = 1 from rfl]
  omega

theorem outK_eq (c : Dev nD) (f : Vec F S128x65536 .f32) (k : Fin 4) : (ptOut c (outI k) f : sProp 𝕄) ⊣⊢ outK c f k := by
  refine (pointsTo_union pan_disj').trans ?_
  exact sep_congr (pointsTo_union (pan_disj (colOut k))) (pointsTo_union (pan_disj (colOut k)))

theorem phi_univ : (Finset.univ : Finset S128x65536.Idx) = (phiI 0 ∪ phiI 1) ∪ (phiI 2 ∪ phiI 3) := by
  ext i
  have h : (i 1).val < 65536 := (i 1).isLt
  simp only [Finset.mem_univ, Finset.mem_union, mem_phiI, true_iff, show colA 0 = 0 from rfl, show colA 1 = 8192 from rfl,
    show colA 2 = 24576 from rfl, show colA 3 = 16384 from rfl, show colB 0 = 49152 from rfl, show colB 1 = 57344 from rfl,
    show colB 2 = 40960 from rfl, show colB 3 = 32768 from rfl]
  omega

theorem out_univ : (Finset.univ : Finset S128x65536.Idx) = (outI 0 ∪ outI 1) ∪ (outI 2 ∪ outI 3) := by
  ext i
  have h : (i 1).val < 65536 := (i 1).isLt
  simp only [Finset.mem_univ, Finset.mem_union, mem_outI, true_iff, show (0 : Fin 4).val = 0 from rfl, show (1 : Fin 4).val = 1 from rfl,
    show (2 : Fin 4).val = 2 from rfl, show (3 : Fin 4).val = 3 from rfl]
  omega

theorem phi_disj : Disjoint (phiI 0) (phiI 1) ∧ Disjoint (phiI 2) (phiI 3) ∧ Disjoint (phiI 0 ∪ phiI 1) (phiI 2 ∪ phiI 3) := by
  simp only [Finset.disjoint_left, Finset.mem_union, mem_phiI, show colA 0 = 0 from rfl, show colA 1 = 8192 from rfl,
    show colA 2 = 24576 from rfl, show colA 3 = 16384 from rfl, show colB 0 = 49152 from rfl, show colB 1 = 57344 from rfl,
    show colB 2 = 40960 from rfl, show colB 3 = 32768 from rfl]
  refine ⟨fun i => ?_, fun i => ?_, fun i => ?_⟩ <;> omega

theorem out_disj : Disjoint (outI 0) (outI 1) ∧ Disjoint (outI 2) (outI 3) ∧ Disjoint (outI 0 ∪ outI 1) (outI 2 ∪ outI 3) := by
  simp only [Finset.disjoint_left, Finset.mem_union, mem_outI, show (0 : Fin 4).val = 0 from rfl, show (1 : Fin 4).val = 1 from rfl,
    show (2 : Fin 4).val = 2 from rfl, show (3 : Fin 4).val = 3 from rfl]
  refine ⟨fun i => ?_, fun i => ?_, fun i => ?_⟩ <;> omega

theorem split_phi (c : Dev nD) (phi : Vec F S128x65536 .f32) :
    (ptPhi c Finset.univ phi : sProp 𝕄) ⊣⊢ iprop((phiK c phi 0 ∗ phiK c phi 1) ∗ (phiK c phi 2 ∗ phiK c phi 3)) := by
  rw [phi_univ]
  refine (pointsTo_union phi_disj.2.2).trans ?_
  refine sep_congr ((pointsTo_union phi_disj.1).trans ?_) ((pointsTo_union phi_disj.2.1).trans ?_)
  · exact sep_congr (phiK_eq c phi 0) (phiK_eq c phi 1)
  · exact sep_congr (phiK_eq c phi 2) (phiK_eq c phi 3)

theorem split_out (c : Dev nD) (f : Vec F S128x65536 .f32) :
    (ptOut c Finset.univ f : sProp 𝕄) ⊣⊢ iprop((outK c f 0 ∗ outK c f 1) ∗ (outK c f 2 ∗ outK c f 3)) := by
  rw [out_univ]
  refine (pointsTo_union out_disj.2.2).trans ?_
  refine sep_congr ((pointsTo_union out_disj.1).trans ?_) ((pointsTo_union out_disj.2.1).trans ?_)
  · exact sep_congr (outK_eq c f 0) (outK_eq c f 1)
  · exact sep_congr (outK_eq c f 2) (outK_eq c f 3)

theorem slots_univ : (Finset.univ : Finset S2x128x8192.Idx) = slotS 0 ∪ slotS 1 := by
  ext i
  have h := idx3_0 i
  simp only [Finset.mem_univ, Finset.mem_union, mem_slotS, true_iff, show (0 : Fin 2).val = 0 from rfl, show (1 : Fin 2).val = 1 from rfl]
  omega

theorem slots_disj : Disjoint (slotS 0) (slotS 1) := by
  rw [Finset.disjoint_left]
  intro i h h'
  simp only [mem_slotS, show (0 : Fin 2).val = 0 from rfl, show (1 : Fin 2).val = 1 from rfl] at h h'
  omega

theorem oslots_univ : (Finset.univ : Finset S2x128x16384.Idx) = oslotS 0 ∪ oslotS 1 := by
  ext i
  have h := idx3_0 i
  simp only [Finset.mem_univ, Finset.mem_union, mem_oslotS, true_iff, show (0 : Fin 2).val = 0 from rfl, show (1 : Fin 2).val = 1 from rfl]
  omega

theorem oslots_disj : Disjoint (oslotS 0) (oslotS 1) := by
  rw [Finset.disjoint_left]
  intro i h h'
  simp only [mem_oslotS, show (0 : Fin 2).val = 0 from rfl, show (1 : Fin 2).val = 1 from rfl] at h h'
  omega

theorem whole_A (c : Dev nD) (f : Vec F S2x128x8192 .f32) :
    (ptA c Finset.univ f : sProp 𝕄) ⊣⊢ iprop(ptA c (slotS 0) f ∗ ptA c (slotS 1) f) := by
  rw [slots_univ]; exact pointsTo_union slots_disj
theorem whole_B (c : Dev nD) (f : Vec F S2x128x8192 .f32) :
    (ptB c Finset.univ f : sProp 𝕄) ⊣⊢ iprop(ptB c (slotS 0) f ∗ ptB c (slotS 1) f) := by
  rw [slots_univ]; exact pointsTo_union slots_disj
theorem whole_S (c : Dev nD) (f : Vec F S2x128x16384 .f32) :
    (ptS c Finset.univ f : sProp 𝕄) ⊣⊢ iprop(ptS c (oslotS 0) f ∗ ptS c (oslotS 1) f) := by
  rw [oslots_univ]; exact pointsTo_union oslots_disj

/-- Two slots held at different contents are the buffer at some contents. -/
theorem join_A (c : Dev nD) (f g : Vec F S2x128x8192 .f32) :
    (iprop(ptA c (slotS 0) f ∗ ptA c (slotS 1) g) : sProp 𝕄) ⊢ iprop(∃ u, ptA c Finset.univ u) := by
  have e0 : (ptA c (slotS 0) f : sProp 𝕄) = ptA c (slotS 0) (fun i => if (i 0).val = 0 then f i else g i) :=
    pointsTo_congr (ℓ := mA.view.loc (c : Thread nD τ)) fun i hi => (if_pos (mem_slotS.mp hi)).symm
  have e1 : (ptA c (slotS 1) g : sProp 𝕄) = ptA c (slotS 1) (fun i => if (i 0).val = 0 then f i else g i) :=
    pointsTo_congr (ℓ := mA.view.loc (c : Thread nD τ)) fun i hi => (if_neg (by
      have : (i 0).val = 1 := mem_slotS.mp hi
      omega)).symm
  rw [e0, e1]
  iintro H
  iexists _
  iapply (whole_A c _).2 $$ H

theorem join_B (c : Dev nD) (f g : Vec F S2x128x8192 .f32) :
    (iprop(ptB c (slotS 0) f ∗ ptB c (slotS 1) g) : sProp 𝕄) ⊢ iprop(∃ u, ptB c Finset.univ u) := by
  have e0 : (ptB c (slotS 0) f : sProp 𝕄) = ptB c (slotS 0) (fun i => if (i 0).val = 0 then f i else g i) :=
    pointsTo_congr (ℓ := mB.view.loc (c : Thread nD τ)) fun i hi => (if_pos (mem_slotS.mp hi)).symm
  have e1 : (ptB c (slotS 1) g : sProp 𝕄) = ptB c (slotS 1) (fun i => if (i 0).val = 0 then f i else g i) :=
    pointsTo_congr (ℓ := mB.view.loc (c : Thread nD τ)) fun i hi => (if_neg (by
      have : (i 0).val = 1 := mem_slotS.mp hi
      omega)).symm
  rw [e0, e1]
  iintro H
  iexists _
  iapply (whole_B c _).2 $$ H

theorem join_S (c : Dev nD) (f g : Vec F S2x128x16384 .f32) :
    (iprop(ptS c (oslotS 0) f ∗ ptS c (oslotS 1) g) : sProp 𝕄) ⊢ iprop(∃ u, ptS c Finset.univ u) := by
  have e0 : (ptS c (oslotS 0) f : sProp 𝕄) = ptS c (oslotS 0) (fun i => if (i 0).val = 0 then f i else g i) :=
    pointsTo_congr (ℓ := mS.view.loc (c : Thread nD τ)) fun i hi => (if_pos (mem_oslotS.mp hi)).symm
  have e1 : (ptS c (oslotS 1) g : sProp 𝕄) = ptS c (oslotS 1) (fun i => if (i 0).val = 0 then f i else g i) :=
    pointsTo_congr (ℓ := mS.view.loc (c : Thread nD τ)) fun i hi => (if_neg (by
      have : (i 0).val = 1 := mem_oslotS.mp hi
      omega)).symm
  rw [e0, e1]
  iintro H
  iexists _
  iapply (whole_S c _).2 $$ H

/-! ## The one-hot matrices -/

/-- The matrix of parity `v` and sign `x` in the stack of four. -/
def Pm (w : Vec F S2x2x128x128 .f32) (v x : Fin 2) : FVec F S128x128 .f32 :=
  shapeCast S128x128 (fun y => w ((Rect.unit (s := S2x2x128x128) ![v.val, x.val, 0, 0] S1x1x128x128.size (inb_p v x)).toLoadRect.idx y))
    shapeCasts_S1x1x128x128_S128x128

theorem loadP_wp (c : Dev nD) (arg0 : Memref sig .tc .vmem S2x2x128x128 .f32) (w : Vec F S2x2x128x128 .f32) (v x : Fin 2)
    (r : FVec F S128x128 .f32 → KProg F) (Q : PUnit → sProp 𝕄) :
    (owns (c : Thread nD τ) arg0 fullShare w : sProp 𝕄)
      ⊢ iprop((owns (c : Thread nD τ) arg0 fullShare w
          -∗ wp frame (wpE (defs₀ (F := F)) Variants.none (c : Thread nD τ) none) Set.univ (r (Pm w v x)) Q)
        -∗ wp frame (wpE (defs₀ (F := F)) Variants.none (c : Thread nD τ) none) Set.univ (loadP arg0 v x r) Q) := by
  unfold loadP owns
  iintro ⟨%f, %hf, H⟩ HK
  subst hf
  iapply (wp_load Variants.none (c : Thread nD τ) none Set.univ (View.setOn_subset_set _ _)) $$ H
  iintro H
  iapply HK
  iexists f
  isplitr
  · ipureintro; rfl
  iexact H

/-! ## The body -/

theorem prog_wp (c : Dev nD) (arg0 : Memref sig .tc .vmem S2x2x128x128 .f32) (w : Vec F S2x2x128x128 .f32)
    (phi out : Vec F S128x65536 .f32) (fA fB : Vec F S2x128x8192 .f32) (fS : Vec F S2x128x16384 .f32) (Q : PUnit → sProp 𝕄) :
    iprop(owns (c : Thread nD τ) arg0 fullShare w ∗ ptPhi c Finset.univ phi ∗ ptOut c Finset.univ out ∗ ptA c Finset.univ fA
        ∗ ptB c Finset.univ fB ∗ ptS c Finset.univ fS ∗ semsI c 0 ∗ semsI c 1 ∗ semsO c 0 ∗ semsO c 1 ∗ owe c)
      ⊢ iprop(((owns (c : Thread nD τ) arg0 fullShare w ∗ ptPhi c Finset.univ phi ∗ ptOut c Finset.univ (resV (Pm w) phi)
            ∗ (∃ u, ptA c Finset.univ u) ∗ (∃ u, ptB c Finset.univ u) ∗ (∃ u, ptS c Finset.univ u)
            ∗ semsI c 0 ∗ semsI c 1 ∗ semsO c 0 ∗ semsO c 1 ∗ owe c)
          -∗ Q ⟨⟩)
        -∗ wp frame (wpE (defs₀ (F := F)) Variants.none (c : Thread nD τ) none) Set.univ
          (prog arg0 mPhi mOut mA mB mS cc0_scratch3 cc0_scratch4) Q) := by
  unfold prog
  refine (BIClass.sep_mono .rfl (BIClass.sep_mono (split_phi c phi).1 (BIClass.sep_mono (split_out c out).1 (BIClass.sep_mono (whole_A c fA).1
    (BIClass.sep_mono (whole_B c fB).1 (BIClass.sep_mono (whole_S c fS).1 .rfl)))))).trans ?_
  iintro ⟨HP, ⟨⟨X0, X1⟩, ⟨X2, X3⟩⟩, ⟨⟨Y0, Y1⟩, ⟨Y2, Y3⟩⟩, ⟨A0, A1⟩, ⟨B0, B1⟩, ⟨S0, S1⟩, I0, I1, O0, O1, HW⟩ HK
  iapply (loadP_wp c arg0 w 0 0) $$ HP
  iintro HP
  iapply (loadP_wp c arg0 w 0 1) $$ HP
  iintro HP
  iapply (loadP_wp c arg0 w 1 0) $$ HP
  iintro HP
  iapply (loadP_wp c arg0 w 1 1) $$ HP
  iintro HP
  iapply (inStart_wp c phi _ _ 0 0 rfl) $$ [X0 A0 B0 I0]
  · isplitl [X0]; · iexact X0
    isplitl [A0]; · iexact A0
    isplitl [B0] <;> iassumption
  iintro G0
  iapply (inStart_wp c phi _ _ 1 1 rfl) $$ [X1 A1 B1 I1]
  · isplitl [X1]; · iexact X1
    isplitl [A1]; · iexact A1
    isplitl [B1] <;> iassumption
  iintro G1
  iapply (inWait_wp c phi 0 0 rfl) $$ [G0 HW]
  · isplitl [G0] <;> iassumption
  iintro ⟨X0, A0, B0, I0, HW⟩
  iapply (comp_wp (Pm w) c phi 0 0 rfl) $$ [A0 B0 S0]
  · isplitl [A0]; · iexact A0
    isplitl [B0] <;> iassumption
  iintro ⟨A0, B0, S0⟩
  iapply (outStart_wp (Pm w) c phi out 0 0 rfl) $$ [S0 Y0 O0]
  · isplitl [S0]; · iexact S0
    isplitl [Y0] <;> iassumption
  iintro U0
  iapply (inStart_wp c phi _ _ 2 0 rfl) $$ [X2 A0 B0 I0]
  · isplitl [X2]; · iexact X2
    isplitl [A0]; · iexact A0
    isplitl [B0] <;> iassumption
  iintro G0
  iapply (inWait_wp c phi 1 1 rfl) $$ [G1 HW]
  · isplitl [G1] <;> iassumption
  iintro ⟨X1, A1, B1, I1, HW⟩
  iapply (comp_wp (Pm w) c phi 1 1 rfl) $$ [A1 B1 S1]
  · isplitl [A1]; · iexact A1
    isplitl [B1] <;> iassumption
  iintro ⟨A1, B1, S1⟩
  iapply (outStart_wp (Pm w) c phi out 1 1 rfl) $$ [S1 Y1 O1]
  · isplitl [S1]; · iexact S1
    isplitl [Y1] <;> iassumption
  iintro U1
  iapply (inStart_wp c phi _ _ 3 1 rfl) $$ [X3 A1 B1 I1]
  · isplitl [X3]; · iexact X3
    isplitl [A1]; · iexact A1
    isplitl [B1] <;> iassumption
  iintro G1
  iapply (inWait_wp c phi 2 0 rfl) $$ [G0 HW]
  · isplitl [G0] <;> iassumption
  iintro ⟨X2, A0, B0, I0, HW⟩
  iapply (outWait_wp (Pm w) c phi 0 0 rfl) $$ [U0 HW]
  · isplitl [U0] <;> iassumption
  iintro ⟨Y0, S0, O0, HW⟩
  iapply (comp_wp (Pm w) c phi 2 0 rfl) $$ [A0 B0 S0]
  · isplitl [A0]; · iexact A0
    isplitl [B0] <;> iassumption
  iintro ⟨A0, B0, S0⟩
  iapply (outStart_wp (Pm w) c phi out 2 0 rfl) $$ [S0 Y2 O0]
  · isplitl [S0]; · iexact S0
    isplitl [Y2] <;> iassumption
  iintro U0
  iapply (inWait_wp c phi 3 1 rfl) $$ [G1 HW]
  · isplitl [G1] <;> iassumption
  iintro ⟨X3, A1, B1, I1, HW⟩
  iapply (outWait_wp (Pm w) c phi 1 1 rfl) $$ [U1 HW]
  · isplitl [U1] <;> iassumption
  iintro ⟨Y1, S1, O1, HW⟩
  iapply (comp_wp (Pm w) c phi 3 1 rfl) $$ [A1 B1 S1]
  · isplitl [A1]; · iexact A1
    isplitl [B1] <;> iassumption
  iintro ⟨A1, B1, S1⟩
  iapply (outStart_wp (Pm w) c phi out 3 1 rfl) $$ [S1 Y3 O1]
  · isplitl [S1]; · iexact S1
    isplitl [Y3] <;> iassumption
  iintro U1
  iapply (outWait_wp (Pm w) c phi 2 0 rfl) $$ [U0 HW]
  · isplitl [U0] <;> iassumption
  iintro ⟨Y2, S0, O0, HW⟩
  iapply (outWait_wp (Pm w) c phi 3 1 rfl) $$ [U1 HW]
  · isplitl [U1] <;> iassumption
  iintro ⟨Y3, S1, O1, HW⟩
  rw [wp_ret]
  imodintro
  iapply HK
  isplitl [HP]; · iexact HP
  isplitl [X0 X1 X2 X3]
  · iapply (split_phi c phi).2
    isplitl [X0 X1]
    · isplitl [X0] <;> iassumption
    isplitl [X2] <;> iassumption
  isplitl [Y0 Y1 Y2 Y3]
  · iapply (split_out c _).2
    isplitl [Y0 Y1]
    · isplitl [Y0] <;> iassumption
    isplitl [Y2] <;> iassumption
  isplitl [A0 A1]
  · iapply (join_A c _ _)
    isplitl [A0] <;> iassumption
  isplitl [B0 B1]
  · iapply (join_B c _ _)
    isplitl [B0] <;> iassumption
  isplitl [S0 S1]
  · iapply (join_S c _ _)
    isplitl [S0] <;> iassumption
  isplitl [I0]; · iexact I0
  isplitl [I1]; · iexact I1
  isplitl [O0]; · iexact O0
  isplitl [O1] <;> iassumption

end Cert.Ring

end
-- ==== Proof.BodyEq.lean ====
/- The printed body is the program of `Program.lean`. -/
module

public import proofs.«01_k».proof.Proof.Program
public import Idealize.ShloMosaic.Lib.Tactic

@[expose] public section

set_option maxRecDepth 1000000
set_option maxHeartbeats 0

noncomputable section

namespace Cert.Ring

open Idealize.ShloMosaic Idealize.SL Idealize.SL.Sem
open Cert.KernelIdeal Cert.KernelIdeal.Facts₀ Cert.KernelIdeal.Facts

variable {F : FTy → Type} [FloatOps F]

/-- The printed body, on any operands, is `prog` on them. -/
theorem body_eq (arg0 : Memref sig .tc .vmem S2x2x128x128 .f32) (h0 : arg0.IsWhole)
    (arg1 : Memref sig .tc .hbm S128x65536 .f32) (h1 : arg1.IsWhole)
    (arg2 : Memref sig .tc .hbm S128x65536 .f32) (h2 : arg2.IsWhole)
    (arg3 : Memref sig .tc .vmem S2x128x8192 .f32) (h3 : arg3.IsWhole)
    (arg4 : Memref sig .tc .vmem S2x128x8192 .f32) (h4 : arg4.IsWhole)
    (arg5 : Memref sig .tc .vmem S2x128x16384 .f32) (h5 : arg5.IsWhole)
    (arg6 arg7 : DmaSems sig S2x2x2) :
    cc0__body (F := F) arg0 h0 arg1 h1 arg2 h2 arg3 h3 arg4 h4 arg5 h5 arg6 arg7
      = prog arg0 arg1 arg2 arg3 arg4 arg5 arg6 arg7 := by
  sl_kernel_rfl

end Cert.Ring

end
-- ==== Proof.Run.lean ====
/- The run of the kernel's whole program, at any floats: the result is `resV` of the operand, the operand is unchanged and every
   semaphore ends at zero. The launch set-up follows the library's examples of a body with transfers of its own. -/
module

public import proofs.«01_k».proof.Proof.Body
public import proofs.«01_k».proof.Proof.BodyEq
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue

@[expose] public section

set_option maxRecDepth 16384

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m
    (main (F := F)) (V m) :=
  Pipeline.hmain_prefix cfgs 0 defs₀ 𝒱₀ m main hostOps0 hostOps0_sub hostOps0_fresh main_chain

/-- The sixteen semaphores, each slot's in the order the phases hold them. -/
abbrev osem0 : Fin 16 → SemLoc sig := fun j => (![SemLoc.dma 1, SemLoc.dma 3, SemLoc.dma 2, SemLoc.dma 4,
  SemLoc.dma 5, SemLoc.dma 7, SemLoc.dma 6, SemLoc.dma 8, SemLoc.dma 9, SemLoc.dma 11, SemLoc.dma 10, SemLoc.dma 12,
  SemLoc.dma 13, SemLoc.dma 15, SemLoc.dma 14, SemLoc.dma 16] : Fin 16 → SemLoc sig) j

theorem ownSemFacts0 : Pipeline.OwnSemFacts spec0 osem0 := by decide

/-- The semaphores the body's copies in use. -/
theorem semI_eq (s x h : Fin 2) : semOf cc0_scratch3 s x h = (Fin.ofNat 17 (1 + 4 * s.val + 2 * x.val + h.val) : DmaSem sig) := by
  revert s x h; decide +kernel
/-- The semaphores the body's copies out use. -/
theorem semO_eq (s x h : Fin 2) : semOf cc0_scratch4 s x h = (Fin.ofNat 17 (9 + 4 * s.val + 2 * x.val + h.val) : DmaSem sig) := by
  revert s x h; decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop(semI c 0 0 0 ∗ semI c 0 1 0 ∗ semI c 0 0 1 ∗ semI c 0 1 1 ∗ semI c 1 0 0 ∗ semI c 1 1 0 ∗ semI c 1 0 1 ∗ semI c 1 1 1
        ∗ semO c 0 0 0 ∗ semO c 0 1 0 ∗ semO c 0 0 1 ∗ semO c 0 1 1 ∗ semO c 1 0 0 ∗ semO c 1 1 0 ∗ semO c 1 0 1 ∗ semO c 1 1 1) := by
  rw [Pipeline.ownSems0_eq_of_list c osem0 [0, 1, 2, 3, 4, 5, 6, 7, 8, 9, 10, 11, 12, 13, 14, 15] (by decide) (by decide)]
  unfold semI semO
  simp only [semI_eq, semO_eq]
  rfl

/-- The operand, which the copies in read. -/
def H0 : Finset (Ref sig .tc) := {main_arg0}
theorem H0_sub : H0 ⊆ Pipeline.restRefs sig spec0 := by decide
/-- The result, which the copies out write. -/
def R0 : Finset (Ref sig .tc) := {main_v0}
theorem R0_sub : R0 ⊆ Pipeline.restRefs sig spec0 \ H0 := by decide

theorem hbm_eq (c : Dev nD) (W : (b : Ref sig .tc) → Buf (Elt F) ((c : Thread nD τ).loc b)) :
    (bigSep H0 (fun b => ((c : Thread nD τ).loc b) ↦{fullShare} W b) : sProp 𝕄) = ptPhi c Finset.univ (W main_arg0) := by
  rw [BI.bigSep_eq_bigSepL_of_eq [main_arg0] (by decide) (by decide)]; rfl

theorem routed_eq (c : Dev nD) (W : (b : Ref sig .tc) → Buf (Elt F) ((c : Thread nD τ).loc b)) :
    (Pipeline.routed R0 c W : sProp 𝕄) = ptOut c Finset.univ (W main_v0) := by
  unfold Pipeline.routed
  rw [BI.bigSep_eq_bigSepL_of_eq [main_v0] (by decide) (by decide)]; rfl

/-- The stack of matrices as the body finds it. -/
abbrev wAt (c : Dev nD) : Vec F S2x2x128x128 .f32 := iblk m c 0 t0_0

/-- The buffers when the body is done: the result at its closed form, the rest as the region finds them. -/
def Gd (c : Dev nD) : (b : Ref sig .tc) → Buf (Elt F) ((c : Thread nD τ).loc b) :=
  Function.update (V m c) main_v0 (resV (Pm (wAt m c)) (V m c main_arg0))

theorem Gd_v0 (c : Dev nD) : Gd m c main_v0 = resV (Pm (wAt m c)) (V m c main_arg0) := Function.update_self _ _ _

/-- The proof data of the one window on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Pipeline.ΦDRG osem0 spec0 H0 R0 (V m) (fun c => if t.val = 0 then V m c else Gd m c) c
  q _ := fullShare
  owed _ := 0

theorem A_eq (c : Dev nD) (w : Fin cfg0.W) : (dats m 0 c).A w = V m c (Pipeline.arrRef spec0 w) := by
  dsimp only [dats]
theorem after_eq (c : Dev nD) (t : Fin cfg0.N) : (dats m 0 c).after 0 t = iblk m c 0 t := by dsimp only [dats]

theorem before_eq (c : Dev nD) (t : Fin cfg0.N) (d) : (dats m 0 c).before 0 t d = iblk m c 0 t :=
  ((dats m 0 c).before_in_eq_fetched 0 rfl (fun _ => rfl) (fun _ _ _ => rfl)
      (fun t => by rw [after_eq]; unfold Dat.blockOf iblk; rw [A_eq]; try rfl) t d).trans
    (by unfold Dat.fetched Dat.blockOf iblk; rw [A_eq]; try rfl)

theorem Φ_castSucc (c : Dev nD) (t : Fin cfg0.N) :
    (dats m 0 c).Φ t.castSucc = Pipeline.ΦDRG osem0 spec0 H0 R0 (V m) (V m) c := by
  rw [show t = t0_0 from fin_N0 t]
  dsimp only [dats]
  rfl

theorem Φ_succ (c : Dev nD) (t : Fin cfg0.N) :
    (dats m 0 c).Φ t.succ = Pipeline.ΦDRG osem0 spec0 H0 R0 (V m) (Gd m) c := by
  dsimp only [dats]
  have e : (fun c => if t.succ.val = 0 then V m c else Gd m c) = Gd m := funext fun c => if_neg (by simp)
  rw [e]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem body_is (t : Fin cfg0.N) : bodyAt0 (F := F) t = prog (st0_0 t) mPhi mOut mA mB mS cc0_scratch3 cc0_scratch4 := by
  unfold bodyAt0
  exact body_eq ..

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Φ_castSucc, Φ_succ, after_eq, body_is]
  simp only [before_eq]
  obtain rfl : t = t0_0 := fin_N0 t
  unfold Dat.owesAt Pipeline.owesWithin
  rw [show (dats m 0 c).owed t0_0.castSucc = 0 from rfl, show (dats m 0 c).owed t0_0.succ = 0 from rfl]
  rw [Pipeline.ΦDRG_eq, Pipeline.ΦDRG_eq, scopedRest0_eq, ownSems00_eq, hbm_eq, routed_eq, routed_eq, Gd_v0]
  iintro ⟨⟨⟨⟨%fA, HA⟩, ⟨%fB, HB⟩, ⟨%fS, HS⟩⟩, Hg, ⟨I00, I01, I02, I03, I10, I11, I12, I13, O00, O01, O02, O03, O10, O11, O12, O13⟩, Hh, Hr⟩,
    ⟨%W, -, HW⟩, ⟨%d0, H0⟩⟩
  iapply (prog_wp c (st0_0 t0_0) (wAt m c) (V m c main_arg0) (V m c main_v0) fA fB fS) $$ [H0 Hh Hr HA HB HS I00 I01 I02 I03 I10 I11 I12 I13 O00 O01 O02 O03 O10 O11 O12 O13 HW]
  · isplitl [H0]; · iexact H0
    isplitl [Hh]; · iexact Hh
    isplitl [Hr]; · iexact Hr
    isplitl [HA]; · iexact HA
    isplitl [HB]; · iexact HB
    isplitl [HS]; · iexact HS
    isplitl [I00 I01 I02 I03]
    · isplitl [I00 I01]
      · isplitl [I00] <;> iassumption
      isplitl [I02] <;> iassumption
    isplitl [I10 I11 I12 I13]
    · isplitl [I10 I11]
      · isplitl [I10] <;> iassumption
      isplitl [I12] <;> iassumption
    isplitl [O00 O01 O02 O03]
    · isplitl [O00 O01]
      · isplitl [O00] <;> iassumption
      isplitl [O02] <;> iassumption
    isplitl [O10 O11 O12 O13]
    · isplitl [O10 O11]
      · isplitl [O10] <;> iassumption
      isplitl [O12] <;> iassumption
    iexists W
    iexact HW
  iintro ⟨H0, Hh, Hr, HA, HB, HS, ⟨⟨I00, I01⟩, ⟨I02, I03⟩⟩, ⟨⟨I10, I11⟩, ⟨I12, I13⟩⟩, ⟨⟨O00, O01⟩, ⟨O02, O03⟩⟩, ⟨⟨O10, O11⟩, ⟨O12, O13⟩⟩, ⟨%W', HW'⟩⟩
  isplitl [HA HB HS Hg I00 I01 I02 I03 I10 I11 I12 I13 O00 O01 O02 O03 O10 O11 O12 O13 Hh Hr]
  · isplitl [HA HB HS]
    · isplitl [HA]; · iexact HA
      isplitl [HB]; · iexact HB
      iexact HS
    isplitl [Hg]; · iexact Hg
    isplitl [I00 I01 I02 I03 I10 I11 I12 I13 O00 O01 O02 O03 O10 O11 O12 O13]
    · isplitl [I00]; · iexact I00
      isplitl [I01]; · iexact I01
      isplitl [I02]; · iexact I02
      isplitl [I03]; · iexact I03
      isplitl [I10]; · iexact I10
      isplitl [I11]; · iexact I11
      isplitl [I12]; · iexact I12
      isplitl [I13]; · iexact I13
      isplitl [O00]; · iexact O00
      isplitl [O01]; · iexact O01
      isplitl [O02]; · iexact O02
      isplitl [O03]; · iexact O03
      isplitl [O10]; · iexact O10
      isplitl [O11]; · iexact O11
      isplitl [O12] <;> iassumption
    isplitl [Hh] <;> iassumption
  isplitl [HW']
  · iexists W'; isplitr; · ipureintro; exact fun _ _ => Or.inl trivial
    iexact HW'
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Φ_last (c : Dev nD) : (dats m 0 c).Φ (Fin.last cfg0.N) = Pipeline.ΦDRG osem0 spec0 H0 R0 (V m) (Gd m) c := by
  have e : (Fin.last cfg0.N) = t0_0.succ := rfl
  rw [e, Φ_succ]

/-! ## The run -/

set_option backward.isDefEq.respectTransparency.types false in
theorem run_main : θ_run defs (onTc (τ := τ) (main (F := F))) (s₀ m ρ)
    (fun r => Pipeline.FramePostRG cfgs (dats m) 0 R0 (V m) (Gd m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := Gd m)
    (hin := fun c => Entails.of_eq (Φ_castSucc m c t0_0).symm) (hout := fun c => Entails.of_eq (Φ_last m c))

/-- The run: the result at its closed form, the operand unchanged, every semaphore at zero. -/
theorem run : θ_run defs (onTc (τ := τ) (main (F := F))) ⟨m, fun _ => 0, ρ⟩ (fun r => (∀ c : Dev nD,
      r.2.mem ((c.tc : Thread nD τ).loc main_v0) = resV (Pm (wAt m c)) (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun _ h => ⟨fun c => ⟨by
      rw [h.1.2 c main_v0 (by decide), Gd_v0, V_main_arg0],
      ((h.1.1 c).2 main_arg0 (Finset.mem_sdiff.mpr ⟨Pipeline.mem_restRefs_of main_arg0 (by decide) (by decide), by decide⟩)).trans
        (V_main_arg0 m c)⟩, h.2⟩) (run_main m ρ)

end Cert.Ring

end
-- ==== Proof.Transfer.lean ====
/- The kernel as printed is the idealized kernel's text, so the run proved for the one is the other's. -/
module

public import proofs.«01_k».proof.Defs
public import proofs.«01_k».proof.Proof.Run
public import proofs.«01_k».proof.Proof.Gen.Kernel

@[expose] public section

noncomputable section

namespace Cert.Ring

open Idealize.ShloMosaic Idealize.SL.Sem

/-- The frame of the idealized kernel's text read at the bit-exact values. -/
def QuietText : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0)

/-- The printed kernel's frame is that statement. -/
theorem quiescent_text : Cert.quiescent_Kernel (hKernel := Cert.Kernel.Gen.facts) = QuietText := by
  sl_kernel_rfl

/-- The printed kernel terminates, leaves its argument unchanged, and leaves every semaphore at zero. -/
theorem quiescent_kernel : Cert.quiescent_Kernel (hKernel := Cert.Kernel.Gen.facts) := by
  rw [quiescent_text]
  intro m g _
  exact (θ_run _ _ _).mono (fun _ h => ⟨fun c => (h.1 c).2, h.2⟩) (run (F := Bits) m g)

/-- The same of the idealized kernel. -/
theorem quiescent_ideal : Cert.quiescent_KernelIdeal (hKernelIdeal := Cert.KernelIdeal.Gen.facts) := by
  intro m g _
  exact (θ_run _ _ _).mono (fun _ h => ⟨fun c => (h.1 c).2, h.2⟩) (run (F := Ideal) m g)

end Cert.Ring

end
-- ==== Proof.Pick.lean ====
/- A table of 128 entries given by a function of the digit, in the shape the printed tables have. -/
module

public import Mathlib.Tactic.IntervalCases

@[expose] public section

namespace Cert.Ring

/-- The table whose entry at digit `n` is `f n`, and `d` past the last digit. -/
def pick {α : Type} (f : Nat → α) (d : α) (n : Nat) : α := match n with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => d

set_option maxRecDepth 4000 in
/-- The table read at a digit is the function there. -/
theorem pick_eq {α : Type} (f : Nat → α) (d : α) (n : Nat) (h : n < 128) : pick f d n = f n := by
  interval_cases n <;> rfl

end Cert.Ring
-- ==== Proof.Source.lean ====
/- The column each result column is read from, and the entries of the selection matrices, in closed form. -/
module

public import proofs.«01_k».proof.Proof.Program

@[expose] public section

namespace Cert.Ring

open Idealize.ShloMosaic

/-- The lane of its input panel that lane `l` of an output panel of parity `v` is read from. -/
def lane (v l : Nat) : Nat := (l ^^^ (l >>> 1)) ^^^ (64 * v)

/-- The column of `phi` that lane `l` of panel `t` in half `x` of phase `k`'s result is a copy of: the half and
    the lane's parity choose the operand, the phase and the panel the input panel, `lane` the lane. -/
def srcAt (k : Fin 4) (x : Nat) (t : Fin 64) (l : Nat) : Nat :=
  (cond (Nat.beq ((x + l) % 2) 0) (colA k) (colB k)) + pcol (slot k) t + lane (t.val % 2) l

/-- The column of `phi` that column `j` of the result is a copy of. -/
def src (j : Nat) : Nat := srcAt (Fin.ofNat 4 (j / 8192)) (j / 32768) (Fin.ofNat 64 (j % 8192 / 128)) (j % 128)

/-- The bits of entry `(s, l)` of selection matrix `(v, x)`: one half, negated at the odd lanes of the
    difference's matrix, in row `lane v l`, and zero in the other rows. -/
def wBits (v x s l : Nat) : BitVec 32 :=
  cond (Nat.beq s (lane v l)) (cond (Nat.beq (x * (l % 2)) 1) 0xBF000000#32 0x3F000000#32) 0#32

end Cert.Ring
-- ==== Proof.PermTable.lean ====
/- The reference's printed permutation, entry by entry. -/
module

public import proofs.«01_k».proof.ReferenceIdeal
public import proofs.«01_k».proof.Proof.Pick
public import proofs.«01_k».proof.Proof.Source
public import Idealize.ShloMosaic.Lib.Tactic

@[expose] public section

namespace Cert.Ring

open Idealize.ShloMosaic

/-- One quarter of the permutation as a table of tables, read at the digits of a place in the printed array. -/
abbrev quarterAt (q i : Nat) : BitVec 32 :=
  pick (fun a => pick (fun b => BitVec.ofNat 32 (src ((q * 128 + a) * 128 + b))) 0#32 (i % 128)) 0#32
    (i / 128 % 128)

/-- The four quarters of the printed permutation. -/
theorem quarter0 : Cert.ReferenceIdeal.lit0t1_0 = quarterAt 0 := by sl_kernel_rfl
theorem quarter1 : Cert.ReferenceIdeal.lit0t1_1 = quarterAt 1 := by sl_kernel_rfl
theorem quarter2 : Cert.ReferenceIdeal.lit0t1_2 = quarterAt 2 := by sl_kernel_rfl
theorem quarter3 : Cert.ReferenceIdeal.lit0t1_3 = quarterAt 3 := by sl_kernel_rfl

/-- A place's digits in its quarter. -/
theorem quarterAt_eq (q j : Nat) (h : j / 16384 = q) : quarterAt q j = BitVec.ofNat 32 (src j) := by
  unfold quarterAt
  rw [pick_eq _ _ _ (by omega), pick_eq _ _ _ (by omega)]
  rw [show (q * 128 + j / 128 % 128) * 128 + j % 128 = j by omega]

/-- Every entry of the printed permutation is the column the kernel's result is read from. -/
theorem perm_entry (j : Nat) (h : j < 65536) : Cert.ReferenceIdeal.lit0t j = BitVec.ofNat 32 (src j) := by
  rw [← quarterAt_eq _ j rfl]
  have hq : j / 16384 < 4 := by omega
  unfold Cert.ReferenceIdeal.lit0t
  generalize j / 16384 = q at hq
  interval_cases q
  exacts [congrFun quarter0 j, congrFun quarter1 j, congrFun quarter2 j, congrFun quarter3 j]

/-- Every source column is a column of `phi`. -/
theorem srcAt_lt : ∀ (k : Fin 4) (x : Fin 2) (t : Fin 64) (l : Fin 128), srcAt k x.val t l.val < 65536 := by
  decide +kernel

end Cert.Ring
-- ==== Proof.Gathered.lean ====
/- The reference's result, entry by entry: column `j` of the result is column `src j` of `phi`. -/
module

public import proofs.«01_k».proof.Proof.Gen.ReferenceIdeal.Run
public import proofs.«01_k».proof.Proof.PermTable
public import proofs.«01_k».proof.Proof.Contents
public import Idealize.ShloMosaic.Lib.ReduceAll
public import Idealize.ShloMosaic.Lib.ValueIdxCore

@[expose] public section

noncomputable section

namespace Cert.Ring

open Idealize.ShloMosaic Idealize.ShloMosaic.ValueIdx

section Gather

open Cert.ReferenceIdeal Cert.ReferenceIdeal.Gen

variable {α : Type}

/-- The reference's gather at one entry: the row is the result's, the column is the word the column of start
    words holds there, when it is a column of the array. -/
theorem gather_at (x : S128x65536.Idx → α) (idx : IVec S65536x1 32) (i : S128x65536.Idx) (n : Nat)
    (hn : n < 65536) (hi : ∀ j : S65536x1.Idx, (j 0).val = (i 1).val → (idx j).toInt.toNat = n) :
    Host.gather gather_S128x65536_S65536x1_S128x65536_0_1_n_n_1_1_1281 x idx i
      = x (ix2 (i 0) (⟨n, hn⟩ : Fin 65536)) := by
  unfold Host.gather
  congr 1
  funext a
  apply Fin.ext
  match a with
  | ⟨0, _⟩ =>
    show GatherDims.start _ i idx 0 + GatherDims.batchCoord _ i 0 + GatherDims.offCoord _ i 0 = (i 0).val
    have h1 : GatherDims.start gather_S128x65536_S65536x1_S128x65536_0_1_n_n_1_1_1281 i idx 0 = 0 := by
      unfold GatherDims.start; exact dif_neg (by decide)
    have h2 : GatherDims.batchCoord gather_S128x65536_S65536x1_S128x65536_0_1_n_n_1_1_1281 i 0 = 0 := by
      unfold GatherDims.batchCoord; exact dif_neg (by decide)
    have h3 : GatherDims.offCoord gather_S128x65536_S65536x1_S128x65536_0_1_n_n_1_1_1281 i 0 = (i 0).val := by
      unfold GatherDims.offCoord; rw [dif_pos (by decide)]; rfl
    rw [h1, h2, h3]; omega
  | ⟨1, _⟩ =>
    show GatherDims.start _ i idx 1 + GatherDims.batchCoord _ i 1 + GatherDims.offCoord _ i 1 = n
    have h2 : GatherDims.batchCoord gather_S128x65536_S65536x1_S128x65536_0_1_n_n_1_1_1281 i 1 = 0 := by
      unfold GatherDims.batchCoord; exact dif_neg (by decide)
    have h3 : GatherDims.offCoord gather_S128x65536_S65536x1_S128x65536_0_1_n_n_1_1_1281 i 1 = 0 := by
      unfold GatherDims.offCoord; exact dif_neg (by decide)
    have h1 : GatherDims.start gather_S128x65536_S65536x1_S128x65536_0_1_n_n_1_1_1281 i idx 1 = n := by
      unfold GatherDims.start
      rw [dif_pos (by decide)]
      exact (congrArg (fun z => min z (65536 - 1)) (hi _ rfl)).trans
        (Nat.min_eq_left (show n ≤ 65536 - 1 by omega))
    rw [h1, h2, h3]; rfl

/-- A column number as a word: its signed value is the number. -/
theorem word_toInt (n : Nat) (h : n < 65536) : (BitVec.ofNat 32 n).toInt = n := by
  rw [BitVec.toInt_eq_toNat_of_lt] <;> simp only [BitVec.toNat_ofNat] <;> omega

/-- The word is not negative, so the index is not wrapped. -/
theorem word_slt (n : Nat) (h : n < 65536) : IntOp.cmpi .slt (BitVec.ofNat 32 n) 0#32 = 0#1 := by
  show BitVec.ofBool ((BitVec.ofNat 32 n).slt 0#32) = 0#1
  have e : (BitVec.ofNat 32 n).slt 0#32 = false := by
    rw [BitVec.slt, word_toInt n h]
    exact decide_eq_false (by simp)
  rw [e]; rfl

/-- The word passes the check that the index is in range. -/
theorem word_range (n : Nat) (h : n < 65536) :
    IntOp.andi (IntOp.cmpi .sge (BitVec.ofNat 32 n) 0#32) (IntOp.cmpi .sle (BitVec.ofNat 32 n) 65535#32) = 1#1 := by
  show IntOp.andi (BitVec.ofBool ((0#32).sle (BitVec.ofNat 32 n))) (BitVec.ofBool ((BitVec.ofNat 32 n).sle 65535#32)) = 1#1
  have e1 : (0#32).sle (BitVec.ofNat 32 n) = true := by
    rw [BitVec.sle, word_toInt n h]
    exact decide_eq_true (by simp)
  have e2 : (BitVec.ofNat 32 n).sle 65535#32 = true := by
    rw [BitVec.sle, word_toInt n h]
    exact decide_eq_true (show (n : Int) ≤ 65535 by omega)
  rw [e1, e2]; rfl

/-- A printed word of the permutation. -/
theorem lit_word (j : S65536.Idx) : lit0 (S65536.rowMajor j) = BitVec.ofNat 32 (src (j 0).val) := by
  have e : (S65536.rowMajor j).val = (j 0).val :=
    Shape.rowMajor_val_one j
  rw [show lit0 (S65536.rowMajor j) = lit0t (S65536.rowMajor j).val from rfl, e]
  exact perm_entry _ (j 0).isLt

/-- Every source column is a column of `phi`. -/
theorem src_lt (j : Nat) (h : j < 65536) : src j < 65536 :=
  srcAt_lt (Fin.ofNat 4 (j / 8192)) ⟨j / 32768, by omega⟩ (Fin.ofNat 64 (j % 8192 / 128)) ⟨j % 128, by omega⟩

/-- The words the reference gathers by: the printed permutation, its negative entries wrapped. -/
def idxV : IVec S65536x1 32 :=
  broadcastInDim S65536x1 ![0] bcast_S65536_S65536x1_0
    (select (cmpi .slt (fun i => lit0 (S65536.rowMajor i)) (broadcastInDim S65536 ![] bcast_S_S65536 (constantI S_ 32 0#32)))
      (addi (fun i => lit0 (S65536.rowMajor i)) (broadcastInDim S65536 ![] bcast_S_S65536 (constantI S_ 32 65536#32)))
      (fun i => lit0 (S65536.rowMajor i)))

/-- No entry is negative, so each word is the source column. -/
theorem idxV_at (j : S65536x1.Idx) : idxV j = BitVec.ofNat 32 (src (j 0).val) := by
  have hj : (j 0).val < 65536 := (j 0).isLt
  unfold idxV
  refine (broadcastInDim_apply _ _ _ j (ix1 (j 0)) (fun a => by
    match a with
    | ⟨0, _⟩ => exact (if_neg (show ¬ (65536 : Nat) = 1 by decide)).symm)).trans ?_
  show (if IntOp.cmpi .slt (lit0 (S65536.rowMajor (ix1 (j 0)))) 0#32 = 1#1 then _ else lit0 (S65536.rowMajor (ix1 (j 0)))) = _
  rw [lit_word (ix1 (j 0))]
  show (if IntOp.cmpi .slt (BitVec.ofNat 32 (src (j 0).val)) 0#32 = 1#1 then _ else _) = _
  rw [word_slt _ (src_lt _ hj), if_neg (by decide)]

/-- A choice whose condition holds at an index is its first array there. -/
theorem select_one {s : Shape} {β : Type} (c : IVec s 1) (a b : s.Idx → β) (i : s.Idx) (h : c i = 1#1) :
    select c a b i = a i := if_pos h

/-- The reference's composed result, at an entry: the entry of the same row in the source column. -/
theorem ref_at {F : FTy → Type} [FloatOps F] (x : FVec F S128x65536 .f32) (i : S128x65536.Idx) :
    select (broadcastInDim S128x65536 ![1] bcast_S65536_S128x65536_1
        (Host.reduce IntOp.andi
          (andi (cmpi .sge idxV (broadcastInDim S65536x1 ![] bcast_S_S65536x1 (constantI S_ 32 0#32)))
            (cmpi .sle idxV (broadcastInDim S65536x1 ![0, 1] bcast_S1x1_S65536x1_0_1
              (broadcastInDim S1x1 ![1] bcast_S1_S1x1_1 (constantI S1 32 65535#32)))))
          (constantI S_ 1 1#1) reducesTo_S65536x1_S65536_d1 h_S_))
      (Host.gather gather_S128x65536_S65536x1_S128x65536_0_1_n_n_1_1_1281 x idxV)
      (broadcastInDim S128x65536 ![] bcast_S_S128x65536 (constant S_ .f32 0x7FC00000#32)) i
      = el x (i 0).val (src (i 1).val) := by
  have hi : (i 1).val < 65536 := (i 1).isLt
  have hs := src_lt _ hi
  have hmask : ∀ j, Host.reduce IntOp.andi
          (andi (cmpi .sge idxV (broadcastInDim S65536x1 ![] bcast_S_S65536x1 (constantI S_ 32 0#32)))
            (cmpi .sle idxV (broadcastInDim S65536x1 ![0, 1] bcast_S1x1_S65536x1_0_1
              (broadcastInDim S1x1 ![1] bcast_S1_S1x1_1 (constantI S1 32 65535#32)))))
          (constantI S_ 1 1#1) reducesTo_S65536x1_S65536_d1 h_S_ j = 1#1 := fun j =>
    Host.reduce_andi_one _ _ _ _ j rfl fun k => by
      show IntOp.andi (IntOp.cmpi .sge (idxV k) 0#32) (IntOp.cmpi .sle (idxV k) 65535#32) = 1#1
      rw [idxV_at]
      exact word_range _ (src_lt _ (k 0).isLt)
  refine (select_one _ _ _ i ((broadcastInDim_apply _ _ _ i (ix1 (i 1)) (fun a => by
    match a with
    | ⟨0, _⟩ => exact (if_neg (show ¬ (65536 : Nat) = 1 by decide)).symm)).trans (hmask _))).trans ?_
  rw [gather_at x idxV i (src (i 1).val) hs fun j hj => by
    rw [idxV_at, hj, word_toInt _ hs]; rfl]
  exact el_eq x _ rfl rfl

end Gather

end Cert.Ring

end
-- ==== Proof.WeightTable.lean ====
/- The kernel's printed selection matrices, entry by entry. -/
module

public import proofs.«01_k».proof.KernelIdeal
public import proofs.«01_k».proof.Proof.Pick
public import proofs.«01_k».proof.Proof.Source
public import Idealize.ShloMosaic.Lib.Tactic

@[expose] public section

namespace Cert.Ring

open Idealize.ShloMosaic

/-- Selection matrix `(v, x)` as a table of tables, read at the digits of a place in the printed array. -/
abbrev matrixAt (v x i : Nat) : BitVec 32 :=
  pick (fun s => pick (fun l => wBits v x s l) 0#32 (i % 128)) 0#32 (i / 128 % 128)

/-- The even panels' matrix for the sums. -/
theorem matrix_even_sum : Cert.KernelIdeal.lit0t1_0 = matrixAt 0 0 := by sl_kernel_rfl

/-- The even panels' matrix for the differences. -/
theorem matrix_even_diff : Cert.KernelIdeal.lit0t1_1 = matrixAt 0 1 := by sl_kernel_rfl

/-- The odd panels' matrix for the sums. -/
theorem matrix_odd_sum : Cert.KernelIdeal.lit0t1_2 = matrixAt 1 0 := by sl_kernel_rfl

/-- The odd panels' matrix for the differences. -/
theorem matrix_odd_diff : Cert.KernelIdeal.lit0t1_3 = matrixAt 1 1 := by sl_kernel_rfl

/-- A place's digits, from its row and column in a matrix. -/
theorem matrixAt_eq (v x : Nat) (q : Nat) (s l : Fin 128) :
    matrixAt v x ((q * 128 + s.val) * 128 + l.val) = wBits v x s.val l.val := by
  have hs := s.isLt
  have hl := l.isLt
  have e0 : ((q * 128 + s.val) * 128 + l.val) % 128 = l.val := by omega
  have e1 : ((q * 128 + s.val) * 128 + l.val) / 128 % 128 = s.val := by omega
  unfold matrixAt
  rw [e0, e1, pick_eq _ _ _ hs, pick_eq _ _ _ hl]

/-- Every entry of the printed selection matrices is the closed form's. -/
theorem weight_entry (v x : Fin 2) (s l : Fin 128) :
    Cert.KernelIdeal.lit0t (((v.val * 2 + x.val) * 128 + s.val) * 128 + l.val) = wBits v.val x.val s.val l.val := by
  rw [← matrixAt_eq v.val x.val (v.val * 2 + x.val) s l]
  have hd : (((v.val * 2 + x.val) * 128 + s.val) * 128 + l.val) / 16384 = v.val * 2 + x.val := by
    have hs := s.isLt
    have hl := l.isLt
    omega
  generalize ((v.val * 2 + x.val) * 128 + s.val) * 128 + l.val = i at hd
  unfold Cert.KernelIdeal.lit0t
  rw [hd]
  fin_cases v <;> fin_cases x
  exacts [congrFun matrix_even_sum i, congrFun matrix_even_diff i, congrFun matrix_odd_sum i,
    congrFun matrix_odd_diff i]

end Cert.Ring
-- ==== Proof.Weights.lean ====
/- The selection matrices the kernel loads, entry by entry. -/
module

public import proofs.«01_k».proof.Proof.Run
public import proofs.«01_k».proof.Proof.WeightTable
public import Idealize.ShloMosaic.Lib.ValueLayout

@[expose] public section

noncomputable section

namespace Cert.Ring

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ) (c : Dev nD)

/-- The array of matrices, when the kernel starts, is the printed table. -/
theorem V_main_cst : V m c main_cst = fun i => FloatOps.ofBits .f32 (lit0 (S2x2x128x128.rowMajor i)) := by
  unfold V hostOps0
  after_results
  try rfl

/-- The kernel's copy of the matrices is the whole array. -/
theorem wAt_at (i : S2x2x128x128.Idx) : wAt m c i = V m c main_cst i := by
  unfold wAt iblk
  refine congrArg (V m c main_cst) (funext fun a => Fin.ext ?_)
  refine (ValueKit.view_emb_slice_whole_unit_val main_cst _ _ _ i a).trans ?_
  have h : ∀ a : Fin 4, (cfg0.win 0).kind.off ((cfg0.win 0).index t0_0 a) ((cfg0.win 0).size a) = 0 := by decide +kernel
  rw [show (cfg0.win 0).kind.off ((cfg0.win 0).index t0_0 a) ((cfg0.win 0).size a) = 0 from h a]
  exact Nat.zero_add _

/-- Entry `(s, l)` of the loaded matrix `(v, x)`. -/
theorem Pm_at (v x : Fin 2) (s l : Fin 128) :
    Pm (wAt m c) v x (ix2 s l) = FloatOps.ofBits .f32 (wBits v.val x.val s.val l.val) := by
  unfold Pm shapeCast
  rw [reshapeEquiv_ix2_11ab]
  show wAt m c _ = _
  rw [wAt_at, V_main_cst]
  refine congrArg (FloatOps.ofBits .f32) ?_
  rw [← weight_entry v x s l]
  refine congrArg lit0t ?_
  refine (Shape.rowMajor_val_four _).trans ?_
  show (((v.val + 1 * 0) * 2 + (x.val + 1 * 0)) * 128 + (0 + 1 * s.val)) * 128 + (0 + 1 * l.val) = _
  omega

end Cert.Ring

end
-- ==== Proof.Block.lean ====
/- What one block of the result holds at the ideal values: each product picks one lane of its operand, halved, and
   the sum and the difference of the two products are entries of the two panels. -/
module

public import proofs.«01_k».proof.Proof.Program
public import proofs.«01_k».proof.Proof.Source
public import Idealize.ShloMosaic.PureOps.Ideal.Laws
public import Idealize.ShloMosaic.Lib.ValueIdx
public import Idealize.ShloMosaic.Lib.ValueLayout

@[expose] public section

noncomputable section

namespace Cert.Ring

open Cert.KernelIdeal Cert.KernelIdeal.Gen
open Idealize.ShloMosaic Idealize.ShloMosaic.ValueIdx

/-- The pattern of one half. -/
theorem half_bits : Ideal.ofBits .f32 0x3F000000#32 = (((1 : ℝ) / 2 : ℝ) : EReal) := by
  simp [Ideal.ofBits, Ideal.ieee, -EReal.coe_mul]; norm_num

/-- The pattern of minus one half. -/
theorem neg_half_bits : Ideal.ofBits .f32 0xBF000000#32 = ((-((1 : ℝ) / 2) : ℝ) : EReal) := by
  simp [Ideal.ofBits, Ideal.ieee, -EReal.coe_mul, -EReal.coe_neg]; norm_num

/-- The source lane is a lane. -/
theorem lane_lt : ∀ (v : Fin 2) (l : Fin 128), lane v.val l.val < 128 := by decide +kernel

/-- The value in the one row of a selection matrix's column that is not zero. -/
def pickW (x l : Nat) : ℝ := cond (Nat.beq (x * (l % 2)) 1) (-(1 / 2)) (1 / 2)

/-- A selection matrix's entry at the ideal values. -/
theorem wBits_val (v x : Nat) (s l : Fin 128) :
    Ideal.ofBits .f32 (wBits v x s.val l.val) = if s.val = lane v l.val then ((pickW x l.val : ℝ) : EReal) else 0 := by
  unfold wBits pickW
  by_cases h : s.val = lane v l.val
  · rw [if_pos h, show Nat.beq s.val (lane v l.val) = true from Nat.beq_eq.mpr h]
    cases Nat.beq (x * (l.val % 2)) 1
    · exact half_bits
    · exact neg_half_bits
  · rw [if_neg h, show Nat.beq s.val (lane v l.val) = false from by
      rw [← Bool.not_eq_true, Nat.beq_eq]; exact h]
    exact Ideal.ofBits_zero_f32

/-- The product of a matrix with one whose column `l` is zero but in row `p`: entry `(r, l)` is entry `(r, p)` times
    what stands there. -/
theorem product_at (A W : FVec Ideal S128x128 .f32) (r l p : Fin 128) (w : EReal)
    (hW : ∀ s : Fin 128, W (ix2 s l) = if s = p then w else 0) :
    matmul dot_S128x128_S128x128_S128x128_1_0_0_1_n_n none A W (constant S128x128 .f32 0x00000000#32) (ix2 r l)
      = A (ix2 r p) * w := by
  refine (Ideal.matmul_constant_zero_apply _ _ _ _ _).trans ?_
  refine (Equiv.sum_comp (contrEquiv1 dot_S128x128_S128x128_S128x128_1_0_0_1_n_n 128 rfl rfl).symm _).symm.trans ?_
  have hl : ∀ k : Fin 128, dot_S128x128_S128x128_S128x128_1_0_0_1_n_n.lhsIdx (ix2 r l)
      ((contrEquiv1 dot_S128x128_S128x128_S128x128_1_0_0_1_n_n 128 rfl rfl).symm k) = ix2 r k := fun k => by
    funext a
    match a with
    | ⟨0, _⟩ => rfl
    | ⟨1, _⟩ => exact Fin.ext (DotDims.lhsIdx_val_of_single _ rfl _ _)
  have hr : ∀ k : Fin 128, dot_S128x128_S128x128_S128x128_1_0_0_1_n_n.rhsIdx (ix2 r l)
      ((contrEquiv1 dot_S128x128_S128x128_S128x128_1_0_0_1_n_n 128 rfl rfl).symm k) = ix2 k l := fun k => by
    funext a
    match a with
    | ⟨0, _⟩ => exact Fin.ext (DotDims.rhsIdx_val_of_single _ rfl _ _)
    | ⟨1, _⟩ => rfl
  refine (Finset.sum_congr rfl fun k _ => by rw [hl k, hr k, hW k]).trans ?_
  rw [Finset.sum_eq_single p (fun k _ hk => by rw [if_neg hk, mul_zero])
    (fun h => absurd (Finset.mem_univ p) h), if_pos rfl]

/-- An entry of a block seen as a matrix. -/
theorem flat_at (a : Vec Ideal S1x128x128 .f32) (r p : Fin 128) :
    shapeCast S128x128 a shapeCasts_S1x128x128_S128x128 (ix2 r p) = a (ix3 0 r p) := by
  unfold shapeCast
  rw [reshapeEquiv_ix2_1ab]; rfl

/-- An entry of a matrix seen as a block. -/
theorem block_at (a : FVec Ideal S128x128 .f32) (r p : Fin 128) :
    shapeCast S1x128x128 a shapeCasts_S128x128_S1x128x128 (ix3 0 r p) = a (ix2 r p) := by
  unfold shapeCast
  refine congrArg a (Shape.reshapeEquiv_eq_of_rowMajor _ ?_)
  rw [Shape.rowMajor_val_three, Shape.rowMajor_val_two]
  show r.val * 128 + p.val = (0 * 128 + r.val) * 128 + p.val
  omega

/-- Half the sum and half the difference of two reals, put together as an even and an odd lane put them. -/
theorem sum_halves (α β : ℝ) :
    ((α : EReal) + β) * ((1 / 2 : ℝ) : EReal) + ((α : EReal) - β) * ((1 / 2 : ℝ) : EReal) = α
    ∧ ((α : EReal) + β) * ((1 / 2 : ℝ) : EReal) + ((α : EReal) - β) * ((-(1 / 2) : ℝ) : EReal) = β
    ∧ ((α : EReal) + β) * ((1 / 2 : ℝ) : EReal) - ((α : EReal) - β) * ((1 / 2 : ℝ) : EReal) = β
    ∧ ((α : EReal) + β) * ((1 / 2 : ℝ) : EReal) - ((α : EReal) - β) * ((-(1 / 2) : ℝ) : EReal) = α := by
  refine ⟨?_, ?_, ?_, ?_⟩
  all_goals
    rw [← EReal.coe_add, ← EReal.coe_sub, ← EReal.coe_mul, ← EReal.coe_mul]
    first
      | rw [← EReal.coe_add]
      | rw [← EReal.coe_sub]
    refine congrArg Real.toEReal ?_
    ring

variable (pp pm : FVec Ideal S128x128 .f32) (a b : Vec Ideal S1x128x128 .f32) (r l p : Fin 128)

/-- The two products at an entry. -/
theorem products_at
    (hp : ∀ s : Fin 128, pp (ix2 s l) = if s = p then ((pickW 0 l.val : ℝ) : EReal) else 0)
    (hm : ∀ s : Fin 128, pm (ix2 s l) = if s = p then ((pickW 1 l.val : ℝ) : EReal) else 0) :
    mulP pp a b (ix2 r l) = (a (ix3 0 r p) + b (ix3 0 r p)) * ((pickW 0 l.val : ℝ) : EReal)
    ∧ mulM pm a b (ix2 r l) = (a (ix3 0 r p) - b (ix3 0 r p)) * ((pickW 1 l.val : ℝ) : EReal) := by
  constructor
  · refine (product_at _ pp r l p _ hp).trans ?_
    rw [addf_apply, flat_at, flat_at]
  · refine (product_at _ pm r l p _ hm).trans ?_
    rw [subf_apply, flat_at, flat_at]

/-- Entry `(r, l)` of the two stored blocks, the operands' entries there being real: the low block takes the even
    lanes from the first operand and the odd ones from the second, the high block the other way about. -/
theorem pay_at
    (hp : ∀ s : Fin 128, pp (ix2 s l) = if s = p then ((pickW 0 l.val : ℝ) : EReal) else 0)
    (hm : ∀ s : Fin 128, pm (ix2 s l) = if s = p then ((pickW 1 l.val : ℝ) : EReal) else 0)
    (ha : ∃ α : ℝ, a (ix3 0 r p) = (α : EReal)) (hb : ∃ β : ℝ, b (ix3 0 r p) = (β : EReal)) :
    payLo pp pm a b (ix3 0 r l) = cond (Nat.beq ((0 + l.val) % 2) 0) (a (ix3 0 r p)) (b (ix3 0 r p))
    ∧ payHi pp pm a b (ix3 0 r l) = cond (Nat.beq ((1 + l.val) % 2) 0) (a (ix3 0 r p)) (b (ix3 0 r p)) := by
  obtain ⟨α, hα⟩ := ha
  obtain ⟨β, hβ⟩ := hb
  obtain ⟨h1, h2⟩ := products_at pp pm a b r l p hp hm
  obtain ⟨s1, s2, s3, s4⟩ := sum_halves α β
  unfold payLo payHi
  rw [block_at, block_at, addf_apply, subf_apply, h1, h2, hα, hβ]
  unfold pickW
  rcases Nat.mod_two_eq_zero_or_one l.val with h | h
  · rw [h, Nat.zero_add, h, show (1 + l.val) % 2 = 1 by omega]
    exact ⟨s1, s3⟩
  · rw [h, Nat.zero_add, h, show (1 + l.val) % 2 = 0 by omega]
    exact ⟨s2, s4⟩

end Cert.Ring

end
-- ==== Proof.Result.lean ====
/- The kernel's result at the ideal values, for a finite operand: column `j` is column `src j` of `phi`. -/
module

public import proofs.«01_k».proof.Proof.Contents
public import proofs.«01_k».proof.Proof.Block

@[expose] public section

noncomputable section

namespace Cert.Ring

open Cert.KernelIdeal Cert.KernelIdeal.Gen
open Idealize.ShloMosaic Idealize.ShloMosaic.ValueIdx

variable (P : Fin 2 → Fin 2 → FVec Ideal S128x128 .f32)
  (hP : ∀ (v x : Fin 2) (s l : Fin 128), P v x (ix2 s l) = Ideal.ofBits .f32 (wBits v.val x.val s.val l.val))
  (phi : Vec Ideal S128x65536 .f32) (hf : ∀ i, ∃ α : ℝ, phi i = (α : EReal))

include hP in
/-- The matrix a step uses, entry by entry: the one of its parity. -/
theorem par_at (x : Fin 2) (t : Fin 64) (s l : Fin 128) (p : Fin 128) (hp : p.val = lane (t.val % 2) l.val) :
    par t (P 0 x) (P 1 x) (ix2 s l) = if s = p then ((pickW x.val l.val : ℝ) : EReal) else 0 := by
  have key : par t (P 0 x) (P 1 x) (ix2 s l) = Ideal.ofBits .f32 (wBits (t.val % 2) x.val s.val l.val) := by
    unfold par
    rcases Nat.mod_two_eq_zero_or_one t.val with h | h
    · rw [h]; exact hP 0 x s l
    · rw [h]; exact hP 1 x s l
  rw [key, wBits_val, ← hp]
  by_cases h : s = p
  · rw [if_pos h, if_pos (congrArg Fin.val h)]
  · rw [if_neg h, if_neg fun e => h (Fin.ext e)]

include hP hf in
/-- What step `t` of phase `k` stores in half `x`: the entries of the same row in the source columns. -/
theorem outBlk_at (k : Fin 4) (x : Fin 2) (t : Fin 64) (r l : Fin 128) :
    outBlk P phi k x.val t (ix3 0 r l) = el phi r.val (srcAt k x.val t l.val) := by
  have hlt : lane (t.val % 2) l.val < 128 := lane_lt ⟨t.val % 2, Nat.mod_lt _ (by decide)⟩ l
  have h := pay_at (par t (P 0 0) (P 1 0)) (par t (P 0 1) (P 1 1)) (blk phi (colA k + pcol (slot k) t))
    (blk phi (colB k + pcol (slot k) t)) r l ⟨lane (t.val % 2) l.val, hlt⟩
    (fun s => par_at P hP 0 t s l _ rfl) (fun s => par_at P hP 1 t s l _ rfl) (hf _) (hf _)
  unfold outBlk srcAt
  match x with
  | ⟨0, _⟩ =>
    refine h.1.trans ?_
    cases Nat.beq ((0 + l.val) % 2) 0 <;> rfl
  | ⟨1, _⟩ =>
    refine h.2.trans ?_
    cases Nat.beq ((1 + l.val) % 2) 0 <;> rfl

include hP hf in
/-- The result at an entry. -/
theorem resV_at (i : S128x65536.Idx) : resV P phi i = el phi (i 0).val (src (i 1).val) := by
  have h0 : (i 0).val < 128 := (i 0).isLt
  have h1 : (i 1).val < 65536 := (i 1).isLt
  unfold resV outEl src
  refine (outBlk_at P hP phi hf (Fin.ofNat 4 ((i 1).val / 8192)) ⟨(i 1).val / 32768, by omega⟩
    (Fin.ofNat 64 ((i 1).val % 8192 / 128)) (Fin.ofNat 128 (i 0).val) (Fin.ofNat 128 ((i 1).val % 8192))).trans ?_
  have e0 : (Fin.ofNat 128 (i 0).val : Fin 128).val = (i 0).val := Nat.mod_eq_of_lt h0
  have e1 : (Fin.ofNat 128 ((i 1).val % 8192) : Fin 128).val = (i 1).val % 128 := by
    show (i 1).val % 8192 % 128 = (i 1).val % 128
    omega
  rw [e0, e1]

end Cert.Ring

end
-- ==== Proof.Finite.lean ====
/- The precondition read at the ideal values: every entry of the operand is a real number. -/
module

public import proofs.«01_k».proof.Defs
public import proofs.«01_k».proof.Proof.Gen.Pre_finite
public import Idealize.ShloMosaic.PureOps.Ideal.Laws

@[expose] public section

noncomputable section

namespace Cert.Ring

open Idealize.ShloMosaic

/-- The bound the precondition compares with is infinity. -/
theorem bound_top : Ideal.ofBits .f32 0x7F800000#32 = (⊤ : EReal) := by
  simp [Ideal.ofBits, Ideal.ieee]

/-- A value whose magnitude is below infinity is a real number. -/
theorem real_of_lt_top (x : EReal) (h : max x (-x) < ⊤) : ∃ α : ℝ, x = (α : EReal) := by
  have ht : x ≠ ⊤ := fun e => absurd (lt_of_le_of_lt (le_max_left x (-x)) h) (by rw [e]; exact lt_irrefl _)
  have hb : x ≠ ⊥ := fun e => absurd (lt_of_le_of_lt (le_max_right x (-x)) h) (by rw [e]; exact lt_irrefl _)
  exact ⟨x.toReal, (EReal.coe_toReal ht hb).symm⟩

/-- Under the precondition every entry is a real number. -/
theorem entries_real (phi : FVec Ideal Cert.Pre_finite.S128x65536 .f32)
    (h : @Cert.Pre_finite.fn Cert.Pre_finite.Gen.facts Ideal _ phi = fun _ => 1#1) (i : Cert.Pre_finite.S128x65536.Idx) :
    ∃ α : ℝ, phi i = (α : EReal) := by
  have hi : Ideal.cmp .olt (max (phi i) (-(phi i))) (Ideal.ofBits .f32 0x7F800000#32) = 1#1 := congrFun h i
  rw [bound_top] at hi
  refine real_of_lt_top _ ?_
  by_contra hn
  simp [Ideal.cmp, hn] at hi

end Cert.Ring

end
-- ==== Proof.Equation.lean ====
/- The two programs side by side: each one's result is the operand's entries at the columns `src` names. -/
module

public import proofs.«01_k».proof.Defs
public import proofs.«01_k».proof.Proof.Gathered
public import proofs.«01_k».proof.Proof.Weights
public import proofs.«01_k».proof.Proof.Result
public import proofs.«01_k».proof.Proof.Finite
public import proofs.«01_k».proof.Proof.Run
public import Idealize.ShloMosaic.Lib.Quiescent

@[expose] public section

noncomputable section

namespace Cert.Ring

open Idealize.ShloMosaic Idealize.SL.Sem

/-- The result both programs have: entry `(r, j)` is the operand's entry `(r, src j)`. -/
def moved (phi : FVec Ideal Cert.KernelIdeal.S128x65536 .f32) : FVec Ideal Cert.KernelIdeal.S128x65536 .f32 :=
  fun i => el (F := Ideal) phi (i 0).val (src (i 1).val)

/-- The kernel's closed form is that result when every entry is a real number. -/
theorem result_moved (m : (ℓ : Loc Cert.KernelIdeal.nD Cert.KernelIdeal.τ Cert.KernelIdeal.sig) → Buf (Elt Ideal) ℓ)
    (c : Dev Cert.KernelIdeal.nD) (phi : FVec Ideal Cert.KernelIdeal.S128x65536 .f32)
    (hf : ∀ i, ∃ α : ℝ, phi i = (α : EReal)) : resV (Pm (wAt m c)) phi = moved phi :=
  funext fun i => resV_at (Pm (wAt m c)) (fun v x s l => Pm_at m c v x s l) phi hf i

/-- The reference ends with that result and with its argument unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v0)
          = moved (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run _ _ _).mono (fun _ h c => ⟨(h c).1.trans (funext fun i => ref_at (F := Ideal) _ i), (h c).2⟩)
    (Cert.ReferenceIdeal.Value.run (F := Ideal) m g)

/-- The reference terminates and leaves its argument unchanged; it has no semaphore to leave raised. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩) (reference_run m g)

/-- From memories that agree on the operand, which is finite, both programs end with the same result. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => moved (m ((c.tc : Thread Cert.KernelIdeal.nD Cert.KernelIdeal.τ).loc Cert.KernelIdeal.main_arg0)), ?_, ?_⟩
  · exact (θ_run _ _ _).mono (fun _ h c => ⟨(h.1 c).1.trans (result_moved m c _ (entries_real _ (hpre c))), (h.1 c).2⟩)
      (run (F := Ideal) m g)
  · exact (θ_run _ _ _).mono (fun _ h c => ⟨(h c).1.trans (congrArg moved (hagree c)), (h c).2⟩) (reference_run m' g')

end Cert.Ring

end
-- ==== Proof.lean ====
/- The claims of this certificate, assembled from the modules under proof/Proof/. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Transfer
public import proofs.«01_k».proof.Proof.Equation
public import Idealize.ShloMosaic.Adequacy
public import Idealize.ShloMosaic.Init

@[expose] public section

noncomputable section

namespace Cert.Proof

/-- Every claim: the three frames, the idealization, and the equality of the results for a finite operand. -/
theorem claim : Cert.Claim :=
  ⟨Cert.Kernel.Gen.facts, Cert.KernelIdeal.Gen.facts, Cert.ReferenceIdeal.Gen.facts, Cert.Pre_finite.Gen.facts,
    Cert.Ring.quiescent_kernel,
    Cert.Ring.quiescent_ideal,
    fun m g _ => Cert.Ring.quiescent_ideal m g trivial,
    fun m g _ => Cert.Ring.reference_quiet m g,
    fun m g _ => Cert.Ring.reference_quiet m g,
    trivial,
    Cert.Ring.equal_results⟩

end Cert.Proof

end
